-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_

variable [Facts]

def fn_part1 {F : FTy → Type} [FloatOps F] (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  main_v18

def fn {F : FTy → Type} [FloatOps F] (main_arg0 : FVec F S2x8192x1024 .f32) (main_arg1 : FVec F S2x8192x1024 .f32) (main_arg2 : FVec F S1x1024x1024 .f32) (main_arg3 : FVec F S1x1024 .f32) (main_arg4 : FVec F S1x1024 .f32) (main_arg5 : FVec F S1x1024 .f32) (main_arg6 : FVec F S1x1024x5632 .f32) (main_arg7 : FVec F S1x3x5632 .f32) (main_arg8 : FVec F S1x5632 .f32) (main_arg9 : FVec F S1x2816x1024 .f32) (main_arg10 : FVec F S1x1024 .f32) (main_arg11 : FVec F S1x1024 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg5
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg6
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg7
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_v13 main_v16
-- ==== Kernel.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S3x5632 : Shape := ⟨2, ![3, 5632]⟩
abbrev S5632 : Shape := ⟨1, ![5632]⟩
abbrev S1x512x1024 : Shape := ⟨3, ![1, 512, 1024]⟩
abbrev S1024x1024 : Shape := ⟨2, ![1024, 1024]⟩
abbrev S1024x5632 : Shape := ⟨2, ![1024, 5632]⟩
abbrev S2816x1024 : Shape := ⟨2, ![2816, 1024]⟩
abbrev S4x256x1792 : Shape := ⟨3, ![4, 256, 1792]⟩
abbrev S4 : Shape := ⟨1, ![4]⟩
abbrev S512x1024 : Shape := ⟨2, ![512, 1024]⟩
abbrev S8x512x128 : Shape := ⟨3, ![8, 512, 128]⟩
abbrev S8x576x128 : Shape := ⟨3, ![8, 576, 128]⟩
abbrev S512x2816 : Shape := ⟨2, ![512, 2816]⟩
abbrev S11x16x256 : Shape := ⟨3, ![11, 16, 256]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1x256x1408 : Shape := ⟨3, ![1, 256, 1408]⟩
abbrev S256x1408 : Shape := ⟨2, ![256, 1408]⟩
abbrev S8x128 : Shape := ⟨2, ![8, 128]⟩
abbrev S1x8x128 : Shape := ⟨3, ![1, 8, 128]⟩
abbrev S1x512x128 : Shape := ⟨3, ![1, 512, 128]⟩
abbrev S512x128 : Shape := ⟨2, ![512, 128]⟩
abbrev S8x256 : Shape := ⟨2, ![8, 256]⟩
abbrev S1024x256 : Shape := ⟨2, ![1024, 256]⟩
abbrev S512x256 : Shape := ⟨2, ![512, 256]⟩
abbrev S1x16x256 : Shape := ⟨3, ![1, 16, 256]⟩
abbrev S16x256 : Shape := ⟨2, ![16, 256]⟩
abbrev S504x256 : Shape := ⟨2, ![504, 256]⟩
abbrev S496x256 : Shape := ⟨2, ![496, 256]⟩
abbrev S1x256 : Shape := ⟨2, ![1, 256]⟩
abbrev S512x2048 : Shape := ⟨2, ![512, 2048]⟩
abbrev S2048x1024 : Shape := ⟨2, ![2048, 1024]⟩
abbrev S512x768 : Shape := ⟨2, ![512, 768]⟩
abbrev S768x1024 : Shape := ⟨2, ![768, 1024]⟩
abbrev S512 : Shape := ⟨1, ![512]⟩
abbrev S512x1 : Shape := ⟨2, ![512, 1]⟩
abbrev S1x64x128 : Shape := ⟨3, ![1, 64, 128]⟩
abbrev S64x128 : Shape := ⟨2, ![64, 128]⟩

abbrev nBuf : Space → Nat
  | .hbm => 26
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S3x5632, .f32⟩
  | .hbm, ⟨16, _⟩ => ⟨S5632, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x5632, .f32⟩
  | .hbm, ⟨23, _⟩ => ⟨S1x1024, .f32⟩
  | .hbm, ⟨24, _⟩ => ⟨S1x1024, .f32⟩
  | .hbm, ⟨25, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S3x5632, .f32⟩
  | .local _ .vmem, ⟨8, _⟩ => ⟨S1x5632, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1024x1024, .bf16⟩
  | .local _ .vmem, ⟨14, _⟩ => ⟨S1024x5632, .bf16⟩
  | .local _ .vmem, ⟨15, _⟩ => ⟨S2816x1024, .bf16⟩
  | .local _ .vmem, ⟨16, _⟩ => ⟨S4x256x1792, .f32⟩
  | .local _ .vmem, ⟨17, _⟩ => ⟨S512x1024, .f32⟩
  | .local _ .vmem, ⟨18, _⟩ => ⟨S8x512x128, .f32⟩
  | .local _ .vmem, ⟨19, _⟩ => ⟨S8x576x128, .f32⟩
  | .local _ .vmem, ⟨20, _⟩ => ⟨S512x2816, .bf16⟩
  | .local _ .vmem, ⟨21, _⟩ => ⟨S11x16x256, .f32⟩
  | .local _ .vmem, ⟨22, _⟩ => ⟨S11x16x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x8192x1024 : Shape := ⟨3, ![2, 8192, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x8192x5632 : Shape := ⟨3, ![2, 8192, 5632]⟩
abbrev S2x8194x5632 : Shape := ⟨3, ![2, 8194, 5632]⟩
abbrev S1x1x5632 : Shape := ⟨3, ![1, 1, 5632]⟩
abbrev S2x8192x2816 : Shape := ⟨3, ![2, 8192, 2816]⟩

abbrev nBuf : Space → Nat
  | .hbm => 132
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S1x1024x1024, .f32⟩
  | 3 => ⟨S1x1024, .f32⟩
  | 4 => ⟨S1x1024, .f32⟩
  | 5 => ⟨S1x1024, .f32⟩
  | 6 => ⟨S1x1024x5632, .f32⟩
  | 7 => ⟨S1x3x5632, .f32⟩
  | 8 => ⟨S1x5632, .f32⟩
  | 9 => ⟨S1x2816x1024, .f32⟩
  | 10 => ⟨S1x1024, .f32⟩
  | 11 => ⟨S1x1024, .f32⟩
  | 12 => ⟨S1024x1024, .f32⟩
  | 13 => ⟨S2x8192x1024, .f32⟩
  | 14 => ⟨S1024, .f32⟩
  | 15 => ⟨S1x1x1024, .f32⟩
  | 16 => ⟨S2x8192x1024, .f32⟩
  | 17 => ⟨S2x8192x1024, .f32⟩
  | 18 => ⟨S_, .f32⟩
  | 19 => ⟨S2x8192x1024, .f32⟩
  | 20 => ⟨S2x8192x1024, .f32⟩
  | 21 => ⟨S2x8192x1024, .f32⟩
  | 22 => ⟨S1024, .f32⟩
  | 23 => ⟨S1024, .f32⟩
  | 24 => ⟨S_, .f32⟩
  | 25 => ⟨S2x8192, .f32⟩
  | 26 => ⟨S2x8192x1, .f32⟩
  | 27 => ⟨S_, .f32⟩
  | 28 => ⟨S2x8192x1, .f32⟩
  | 29 => ⟨S2x8192x1, .f32⟩
  | 30 => ⟨S2x8192x1024, .f32⟩
  | 31 => ⟨S2x8192x1024, .f32⟩
  | 32 => ⟨S2x8192x1024, .f32⟩
  | 33 => ⟨S_, .f32⟩
  | 34 => ⟨S2x8192, .f32⟩
  | 35 => ⟨S2x8192x1, .f32⟩
  | 36 => ⟨S_, .f32⟩
  | 37 => ⟨S2x8192x1, .f32⟩
  | 38 => ⟨S2x8192x1, .f32⟩
  | 39 => ⟨S2x8192x1024, .f32⟩
  | 40 => ⟨S2x8192x1024, .f32⟩
  | 41 => ⟨S_, .f32⟩
  | 42 => ⟨S2x8192x1, .f32⟩
  | 43 => ⟨S2x8192x1, .f32⟩
  | 44 => ⟨S2x8192x1, .f32⟩
  | 45 => ⟨S2x8192x1024, .f32⟩
  | 46 => ⟨S2x8192x1024, .f32⟩
  | 47 => ⟨S1x1x1024, .f32⟩
  | 48 => ⟨S2x8192x1024, .f32⟩
  | 49 => ⟨S2x8192x1024, .f32⟩
  | 50 => ⟨S1x1x1024, .f32⟩
  | 51 => ⟨S2x8192x1024, .f32⟩
  | 52 => ⟨S2x8192x1024, .f32⟩
  | 53 => ⟨S1024x5632, .f32⟩
  | 54 => ⟨S3x5632, .f32⟩
  | 55 => ⟨S5632, .f32⟩
  | 56 => ⟨S2816x1024, .f32⟩
  | 57 => ⟨S2x8192x5632, .f32⟩
  | 58 => ⟨S_, .i32⟩
  | 59 => ⟨S_, .f32⟩
  | 60 => ⟨S2x8194x5632, .f32⟩
  | 61 => ⟨S2x8192x5632, .f32⟩
  | 62 => ⟨S1x5632, .f32⟩
  | 63 => ⟨S5632, .f32⟩
  | 64 => ⟨S1x1x5632, .f32⟩
  | 65 => ⟨S2x8192x5632, .f32⟩
  | 66 => ⟨S2x8192x5632, .f32⟩
  | 67 => ⟨S2x8192x5632, .f32⟩
  | 68 => ⟨S1x5632, .f32⟩
  | 69 => ⟨S5632, .f32⟩
  | 70 => ⟨S1x1x5632, .f32⟩
  | 71 => ⟨S2x8192x5632, .f32⟩
  | 72 => ⟨S2x8192x5632, .f32⟩
  | 73 => ⟨S2x8192x5632, .f32⟩
  | 74 => ⟨S2x8192x5632, .f32⟩
  | 75 => ⟨S1x5632, .f32⟩
  | 76 => ⟨S5632, .f32⟩
  | 77 => ⟨S1x1x5632, .f32⟩
  | 78 => ⟨S2x8192x5632, .f32⟩
  | 79 => ⟨S2x8192x5632, .f32⟩
  | 80 => ⟨S2x8192x5632, .f32⟩
  | 81 => ⟨S1x1x5632, .f32⟩
  | 82 => ⟨S2x8192x5632, .f32⟩
  | 83 => ⟨S2x8192x5632, .f32⟩
  | 84 => ⟨S2x8192x2816, .f32⟩
  | 85 => ⟨S2x8192x2816, .f32⟩
  | 86 => ⟨S2x8192x2816, .f32⟩
  | 87 => ⟨S2x8192x2816, .f32⟩
  | 88 => ⟨S_, .f32⟩
  | 89 => ⟨S2x8192x2816, .f32⟩
  | 90 => ⟨S2x8192x2816, .f32⟩
  | 91 => ⟨S_, .f32⟩
  | 92 => ⟨S2x8192x2816, .f32⟩
  | 93 => ⟨S2x8192x2816, .f32⟩
  | 94 => ⟨S2x8192x2816, .f32⟩
  | 95 => ⟨S2x8192x2816, .f32⟩
  | 96 => ⟨S2x8192x1024, .f32⟩
  | 97 => ⟨S_, .f32⟩
  | 98 => ⟨S2x8192x1024, .f32⟩
  | 99 => ⟨S2x8192x1024, .f32⟩
  | 100 => ⟨S2x8192x1024, .f32⟩
  | 101 => ⟨S1024, .f32⟩
  | 102 => ⟨S1024, .f32⟩
  | 103 => ⟨S_, .f32⟩
  | 104 => ⟨S2x8192, .f32⟩
  | 105 => ⟨S2x8192x1, .f32⟩
  | 106 => ⟨S_, .f32⟩
  | 107 => ⟨S2x8192x1, .f32⟩
  | 108 => ⟨S2x8192x1, .f32⟩
  | 109 => ⟨S2x8192x1024, .f32⟩
  | 110 => ⟨S2x8192x1024, .f32⟩
  | 111 => ⟨S2x8192x1024, .f32⟩
  | 112 => ⟨S_, .f32⟩
  | 113 => ⟨S2x8192, .f32⟩
  | 114 => ⟨S2x8192x1, .f32⟩
  | 115 => ⟨S_, .f32⟩
  | 116 => ⟨S2x8192x1, .f32⟩
  | 117 => ⟨S2x8192x1, .f32⟩
  | 118 => ⟨S2x8192x1024, .f32⟩
  | 119 => ⟨S2x8192x1024, .f32⟩
  | 120 => ⟨S_, .f32⟩
  | 121 => ⟨S2x8192x1, .f32⟩
  | 122 => ⟨S2x8192x1, .f32⟩
  | 123 => ⟨S2x8192x1, .f32⟩
  | 124 => ⟨S2x8192x1024, .f32⟩
  | 125 => ⟨S2x8192x1024, .f32⟩
  | 126 => ⟨S1x1x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S1x1x1024, .f32⟩
  | 2 => ⟨S2x8192x1024, .f32⟩
  | 3 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_5 : Ref sig .tc := ⟨.hbm, 88, rfl⟩
abbrev main_v68 : Ref sig .tc := ⟨.hbm, 89, rfl⟩
abbrev main_v69 : Ref sig .tc := ⟨.hbm, 90, rfl⟩
abbrev main_cst_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_7 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_8 : Ref sig .tc := ⟨.hbm, 103, rfl⟩
abbrev main_v80 : Ref sig .tc := ⟨.hbm, 104, rfl⟩
abbrev main_v81 : Ref sig .tc := ⟨.hbm, 105, rfl⟩
abbrev main_cst_9 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩

abbrev nD : Nat := 1
abbrev τ : Topo := Topo.v7x

variable {F : FTy → Type} [FloatOps F]
-- ==== Proof.Math.lean ====
module

public import Idealize.ShloMosaic.Lib.Pointwise

/-! Facts about extended reals: a normalized row is finite, the negated convolution is the convolution negated, the gate. -/

set_option maxRecDepth 16384

@[expose] public section

noncomputable section
open Idealize.ShloMosaic
namespace Cert.Proof

/-- The row length. -/
abbrev rowN : EReal := Ideal.ofBits FTy.f32 1149239296#32
/-- The norm's small constant. -/
abbrev epsN : EReal := Ideal.ofBits FTy.f32 925353388#32
/-- The residual's scale. -/
abbrev alphaN : EReal := Ideal.ofBits FTy.f32 1066940400#32

theorem rowN_real : ∃ r : ℝ, 0 < r ∧ rowN = (r : EReal) := by
  refine ⟨1024, by norm_num, ?_⟩
  simp [rowN, Ideal.ofBits, Ideal.ieee]
  norm_cast
  norm_num

theorem epsN_real : ∃ r : ℝ, 0 < r ∧ epsN = (r : EReal) := by
  refine ⟨_, ?_, by simp only [epsN, Ideal.ofBits, Ideal.ieee]; simp; rfl⟩
  positivity

/-- A row less its mean. -/
def dev (v : Fin 1024 → EReal) (j : Fin 1024) : EReal := v j - Ideal.div (∑ x, v x) rowN

/-- One over the square root of a row's variance. -/
def rstd (v : Fin 1024 → EReal) : EReal := Ideal.rsqrt (Ideal.div (∑ x, dev v x * dev v x) rowN + epsN)

/-- A row's layer norm. -/
def ln (v : Fin 1024 → EReal) (g b : EReal) (j : Fin 1024) : EReal := dev v j * rstd v * g + b

theorem coe_sum' {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem sq_nonneg (a : EReal) : 0 ≤ a * a := by
  induction a with
  | bot => simp
  | top => simp
  | coe r => rw [← EReal.coe_mul]; exact_mod_cast mul_self_nonneg r

theorem real_of_sq {a : EReal} (h : a * a ≠ ⊤) : ∃ r : ℝ, a = (r : EReal) := by
  induction a with
  | bot => simp at h
  | top => simp at h
  | coe r => exact ⟨r, rfl⟩

theorem ln_core_real (v : Fin 1024 → EReal) (j : Fin 1024) : ∃ r : ℝ, dev v j * rstd v = (r : EReal) := by
  obtain ⟨n, hn, hN⟩ := rowN_real
  obtain ⟨e, he, hE⟩ := epsN_real
  have hdiv : ∀ x : EReal, Ideal.div x rowN = x * ((n⁻¹ : ℝ) : EReal) := fun x => by
    rw [hN, Ideal.div, if_neg (by exact_mod_cast hn.ne'), EReal.coe_inv]
  by_cases hS : (∑ x, dev v x * dev v x) = ⊤
  · refine ⟨0, ?_⟩
    rw [rstd, hdiv, hS, EReal.top_mul_coe_of_pos (inv_pos.2 hn), hE, EReal.top_add_coe]
    show _ * (0 : EReal) = _
    simp
  · have hle : ∀ k, dev v k * dev v k ≠ ⊤ := fun k hk => hS (top_le_iff.1 (hk ▸
      Finset.single_le_sum (f := fun x => dev v x * dev v x) (fun i _ => sq_nonneg _) (Finset.mem_univ k)))
    choose d hd using fun k => real_of_sq (hle k)
    have hsum : (∑ x, dev v x * dev v x) = ((∑ x, d x * d x : ℝ) : EReal) := by
      rw [coe_sum']; exact Finset.sum_congr rfl fun x _ => by rw [hd x, EReal.coe_mul]
    have hpos : 0 < (∑ x, d x * d x) * n⁻¹ + e :=
      add_pos_of_nonneg_of_pos (mul_nonneg (Finset.sum_nonneg fun x _ => mul_self_nonneg _) (inv_nonneg.2 hn.le)) he
    refine ⟨d j * (Real.sqrt ((∑ x, d x * d x) * n⁻¹ + e))⁻¹, ?_⟩
    have hr : rstd v = (((Real.sqrt ((∑ x, d x * d x) * n⁻¹ + e))⁻¹ : ℝ) : EReal) := by
      rw [rstd, hdiv, hsum, hE, ← EReal.coe_mul, ← EReal.coe_add]
      show (if _ then _ else if _ then _ else _) = _
      rw [if_neg hpos.not_gt, if_neg hpos.ne']
    rw [hd j, hr, EReal.coe_mul]

/-- Being a real number. -/
def Fin' (a : EReal) : Prop := ∃ r : ℝ, a = (r : EReal)

theorem ln_fin (v : Fin 1024 → EReal) {g b : EReal} (hg : Fin' g) (hb : Fin' b) (j : Fin 1024) : Fin' (ln v g b j) := by
  obtain ⟨r, hr⟩ := ln_core_real v j
  obtain ⟨g, rfl⟩ := hg
  obtain ⟨b, rfl⟩ := hb
  exact ⟨r * g + b, by rw [ln, hr]; push_cast; rfl⟩

theorem sum_fin {n : ℕ} {f : Fin n → EReal} (h : ∀ i, Fin' (f i)) : Fin' (∑ i, f i) := by
  choose r hr using h
  exact ⟨∑ i, r i, by rw [coe_sum']; exact Finset.sum_congr rfl fun x _ => hr x⟩

theorem mul_fin {a b : EReal} (ha : Fin' a) (hb : Fin' b) : Fin' (a * b) := by
  obtain ⟨a, rfl⟩ := ha; obtain ⟨b, rfl⟩ := hb; exact ⟨a * b, by push_cast; rfl⟩

theorem zero_fin : Fin' 0 := ⟨0, rfl⟩

/-- Taps and bias negated give the convolution negated, whatever the bias. -/
theorem conv_neg {u0 u1 u2 w0 w1 w2 b : EReal} (h0 : Fin' u0) (h1 : Fin' u1) (h2 : Fin' u2)
    (k0 : Fin' w0) (k1 : Fin' w1) (k2 : Fin' w2) :
    (0 - w2) * u2 + ((0 - w1) * u1 + ((0 - w0) * u0 - b)) = -(u0 * w0 + u1 * w1 + u2 * w2 + b) := by
  obtain ⟨_, rfl⟩ := h0; obtain ⟨_, rfl⟩ := h1; obtain ⟨_, rfl⟩ := h2
  obtain ⟨_, rfl⟩ := k0; obtain ⟨_, rfl⟩ := k1; obtain ⟨_, rfl⟩ := k2
  induction b using EReal.rec with
  | bot => norm_cast
  | top => norm_cast
  | coe r =>
    norm_cast
    congr 1
    ring

/-- The gate over the negated halves. -/
theorem gate_neg (g u X : EReal) : -g * -u * X = g * X * u := by
  rw [neg_mul_neg, mul_right_comm]

end Cert.Proof
-- ==== Proof.Ref.lean ====
module

public import proofs.«01_k».proof.Proof.Gen.ReferenceIdeal
public import Idealize.ShloMosaic.Lib.Pointwise
public import proofs.«01_k».proof.Proof.Math

/-! The reference's result, stage by stage, and each stage read at an index. -/

set_option maxRecDepth 16384

@[expose] public section

noncomputable section
open Idealize.ShloMosaic Idealize.SL.Sem
namespace Cert.ReferenceIdeal.Value
open Cert.ReferenceIdeal Cert.ReferenceIdeal.Gen

/-- A row's layer norm over the last axis, as the reference writes it. -/
def lnR (v : FVec Ideal S2x8192x1024 .f32) (g b : FVec Ideal S1x1024 .f32) : FVec Ideal S2x8192x1024 .f32 :=
  have g1 : FVec Ideal S1024 .f32 := shapeCast S1024 g shapeCasts_S1x1024_S1024
  have b1 : FVec Ideal S1024 .f32 := shapeCast S1024 b shapeCasts_S1x1024_S1024
  have mu : FVec Ideal S2x8192x1 .f32 :=
    Host.divf (broadcastInDim S2x8192x1 ![0, 1] bcast_S2x8192_S2x8192x1_0_1
        (Host.reduceAdd v (constant S_ .f32 0x00000000#32) reducesTo_S2x8192x1024_S2x8192_d2 h_S_))
      (broadcastInDim S2x8192x1 ![] bcast_S_S2x8192x1 (constant S_ .f32 0x44800000#32))
  have d : FVec Ideal S2x8192x1024 .f32 := subf v (broadcastInDim S2x8192x1024 ![0, 1, 2] bcast_S2x8192x1_S2x8192x1024_0_1_2 mu)
  have var : FVec Ideal S2x8192x1 .f32 :=
    Host.divf (broadcastInDim S2x8192x1 ![0, 1] bcast_S2x8192_S2x8192x1_0_1
        (Host.reduceAdd (mulf d d) (constant S_ .f32 0x00000000#32) reducesTo_S2x8192x1024_S2x8192_d2 h_S_))
      (broadcastInDim S2x8192x1 ![] bcast_S_S2x8192x1 (constant S_ .f32 0x44800000#32))
  have rs : FVec Ideal S2x8192x1 .f32 :=
    Host.rsqrt (addf var (broadcastInDim S2x8192x1 ![] bcast_S_S2x8192x1 (constant S_ .f32 0x3727C5AC#32)))
  addf
    (mulf (mulf d (broadcastInDim S2x8192x1024 ![0, 1, 2] bcast_S2x8192x1_S2x8192x1024_0_1_2 rs))
      (broadcastInDim S2x8192x1024 ![0, 1, 2] bcast_S1x1x1024_S2x8192x1024_0_1_2
        (broadcastInDim S1x1x1024 ![2] bcast_S1024_S1x1x1024_2 g1)))
    (broadcastInDim S2x8192x1024 ![0, 1, 2] bcast_S1x1x1024_S2x8192x1024_0_1_2
      (broadcastInDim S1x1x1024 ![2] bcast_S1024_S1x1x1024_2 b1))

/-- The first residual sum. -/
def res1R (x y : FVec Ideal S2x8192x1024 .f32) (wo : FVec Ideal S1x1024x1024 .f32) (bo : FVec Ideal S1x1024 .f32) :
    FVec Ideal S2x8192x1024 .f32 :=
  addf (mulf (broadcastInDim S2x8192x1024 ![] bcast_S_S2x8192x1024 (constant S_ .f32 0x3F9837F0#32)) x)
    (addf
      (Host.dotGeneral dot_S2x8192x1024_S1024x1024_S2x8192x1024_2_0_01_1_n_n none y
        (shapeCast S1024x1024 wo shapeCasts_S1x1024x1024_S1024x1024 : FVec Ideal S1024x1024 .f32))
      (broadcastInDim S2x8192x1024 ![0, 1, 2] bcast_S1x1x1024_S2x8192x1024_0_1_2
        (broadcastInDim S1x1x1024 ![2] bcast_S1024_S1x1x1024_2
          (shapeCast S1024 bo shapeCasts_S1x1024_S1024 : FVec Ideal S1024 .f32))))

/-- The up projection. -/
def upR (x1 : FVec Ideal S2x8192x1024 .f32) (wu : FVec Ideal S1x1024x5632 .f32) : FVec Ideal S2x8192x5632 .f32 :=
  Host.dotGeneral dot_S2x8192x1024_S1024x5632_S2x8192x5632_2_0_01_1_n_n none x1
    (shapeCast S1024x5632 wu shapeCasts_S1x1024x5632_S1024x5632 : FVec Ideal S1024x5632 .f32)

/-- Two rows of zeros before the sequence. -/
def padR (u : FVec Ideal S2x8192x5632 .f32) : FVec Ideal S2x8194x5632 .f32 :=
  pad S2x8194x5632 ![0, 2, 0] ![0, 0, 0] ![0, 0, 0] u (sitofp (F := Ideal) .f32 (constantI S_ 32 0#32))
    pads_S2x8192x5632_S2x8194x5632_000_200_000 h_S_

/-- One tap of the convolution, as the reference spreads it over the rows. -/
def tapR (t : FVec Ideal S1x5632 .f32) : FVec Ideal S2x8192x5632 .f32 :=
  broadcastInDim S2x8192x5632 ![0, 1, 2] bcast_S1x1x5632_S2x8192x5632_0_1_2
    (broadcastInDim S1x1x5632 ![2] bcast_S5632_S1x1x5632_2
      (shapeCast S5632 t shapeCasts_S1x5632_S5632 : FVec Ideal S5632 .f32))

/-- The causal convolution of three taps. -/
def convR (p : FVec Ideal S2x8194x5632 .f32) (w : FVec Ideal S1x3x5632 .f32) (b : FVec Ideal S1x5632 .f32) :
    FVec Ideal S2x8192x5632 .f32 :=
  have w3 : FVec Ideal S3x5632 .f32 := shapeCast S3x5632 w shapeCasts_S1x3x5632_S3x5632
  addf
    (addf
      (addf
        (mulf (extractStridedSlice S2x8192x5632 ![0, 0, 0] p slices_S2x8194x5632_S2x8192x5632_0_0_0)
          (tapR (extractStridedSlice S1x5632 ![0, 0] w3 slices_S3x5632_S1x5632_0_0)))
        (mulf (extractStridedSlice S2x8192x5632 ![0, 1, 0] p slices_S2x8194x5632_S2x8192x5632_0_1_0)
          (tapR (extractStridedSlice S1x5632 ![1, 0] w3 slices_S3x5632_S1x5632_1_0))))
      (mulf (extractStridedSlice S2x8192x5632 ![0, 2, 0] p slices_S2x8194x5632_S2x8192x5632_0_2_0)
        (tapR (extractStridedSlice S1x5632 ![2, 0] w3 slices_S3x5632_S1x5632_2_0))))
    (tapR b)

/-- The gate. -/
def gateR (h : FVec Ideal S2x8192x5632 .f32) : FVec Ideal S2x8192x2816 .f32 :=
  have g : FVec Ideal S2x8192x2816 .f32 := extractStridedSlice S2x8192x2816 ![0, 0, 0] h slices_S2x8192x5632_S2x8192x2816_0_0_0
  have one : FVec Ideal S2x8192x2816 .f32 := broadcastInDim S2x8192x2816 ![] bcast_S_S2x8192x2816 (constant S_ .f32 0x3F800000#32)
  mulf (mulf g (Host.divf one (addf one (Host.exp (Host.negf g)))))
    (extractStridedSlice S2x8192x2816 ![0, 0, 2816] h slices_S2x8192x5632_S2x8192x2816_0_0_2816)

/-- The second residual sum. -/
def res2R (x1 : FVec Ideal S2x8192x1024 .f32) (a : FVec Ideal S2x8192x2816 .f32) (wd : FVec Ideal S1x2816x1024 .f32) :
    FVec Ideal S2x8192x1024 .f32 :=
  addf (mulf (broadcastInDim S2x8192x1024 ![] bcast_S_S2x8192x1024 (constant S_ .f32 0x3F9837F0#32)) x1)
    (Host.dotGeneral dot_S2x8192x2816_S2816x1024_S2x8192x1024_2_0_01_1_n_n none a
      (shapeCast S2816x1024 wd shapeCasts_S1x2816x1024_S2816x1024 : FVec Ideal S2816x1024 .f32))

/-- The reference's result over its arguments. -/
def REF (x y : FVec Ideal S2x8192x1024 .f32) (wo : FVec Ideal S1x1024x1024 .f32) (bo g1 b1 : FVec Ideal S1x1024 .f32)
    (wu : FVec Ideal S1x1024x5632 .f32) (fw : FVec Ideal S1x3x5632 .f32) (fb : FVec Ideal S1x5632 .f32)
    (wd : FVec Ideal S1x2816x1024 .f32) (g2 b2 : FVec Ideal S1x1024 .f32) : FVec Ideal S2x8192x1024 .f32 :=
  lnR (res2R (lnR (res1R x y wo bo) g1 b1) (gateR (convR (padR (upR (lnR (res1R x y wo bo) g1 b1) wu)) fw fb)) wd) g2 b2

/-- The layer's twelve arguments. -/
structure Args where
  x : FVec Ideal S2x8192x1024 .f32
  y : FVec Ideal S2x8192x1024 .f32
  wo : FVec Ideal S1x1024x1024 .f32
  bo : FVec Ideal S1x1024 .f32
  g1 : FVec Ideal S1x1024 .f32
  b1 : FVec Ideal S1x1024 .f32
  wu : FVec Ideal S1x1024x5632 .f32
  fw : FVec Ideal S1x3x5632 .f32
  fb : FVec Ideal S1x5632 .f32
  wd : FVec Ideal S1x2816x1024 .f32
  g2 : FVec Ideal S1x1024 .f32
  b2 : FVec Ideal S1x1024 .f32

open Cert.Proof

namespace Args
variable (A : Args)

/-- A row of the first residual sum. -/
def r1 (i : Fin 2) (r : Fin 8192) (j : Fin 1024) : EReal :=
  alphaN * A.x (ix3 i r j) + (∑ k, A.y (ix3 i r k) * A.wo (ix3 0 k j) + A.bo (ix2 0 j))

/-- The first norm's output. -/
def x1 (i : Fin 2) (r : Fin 8192) (j : Fin 1024) : EReal := ln (A.r1 i r) (A.g1 (ix2 0 j)) (A.b1 (ix2 0 j)) j

/-- The up projection. -/
def up (i : Fin 2) (r : Fin 8192) (c : Fin 5632) : EReal := ∑ k, A.x1 i r k * A.wu (ix3 0 k c)

/-- The up projection after two rows of zeros. -/
def upz (i : Fin 2) (r : ℕ) (c : Fin 5632) : EReal :=
  if h : 2 ≤ r ∧ r - 2 < 8192 then A.up i ⟨r - 2, h.2⟩ c else 0

/-- The convolution. -/
def conv (i : Fin 2) (r : ℕ) (c : Fin 5632) : EReal :=
  A.upz i r c * A.fw (ix3 0 0 c) + A.upz i (1 + r) c * A.fw (ix3 0 1 c) + A.upz i (2 + r) c * A.fw (ix3 0 2 c)
    + A.fb (ix2 0 c)

/-- The gate. -/
def act (i : Fin 2) (r : ℕ) (c : Fin 2816) : EReal :=
  A.conv i r ⟨c, by omega⟩ * Ideal.div 1 (1 + Ideal.exp (-A.conv i r ⟨c, by omega⟩)) * A.conv i r ⟨2816 + c, by omega⟩

/-- A row of the second residual sum. -/
def r2 (i : Fin 2) (r : Fin 8192) (j : Fin 1024) : EReal :=
  alphaN * A.x1 i r j + ∑ c, A.act i r c * A.wd (ix3 0 c j)

/-- The result. -/
def out (i : Fin 2) (r : Fin 8192) (j : Fin 1024) : EReal := ln (A.r2 i r) (A.g2 (ix2 0 j)) (A.b2 (ix2 0 j)) j

end Args

theorem lnR_at (v : FVec Ideal S2x8192x1024 .f32) (g b : FVec Ideal S1x1024 .f32) (i : Fin 2) (r : Fin 8192) (j : Fin 1024) :
    lnR v g b (ix3 i r j) = ln (fun k => v (ix3 i r k)) (g (ix2 0 j)) (b (ix2 0 j)) j := by
  pointwise [lnR]
  rfl

theorem res1R_at (x y : FVec Ideal S2x8192x1024 .f32) (wo : FVec Ideal S1x1024x1024 .f32) (bo : FVec Ideal S1x1024 .f32)
    (i : Fin 2) (r : Fin 8192) (j : Fin 1024) :
    res1R x y wo bo (ix3 i r j) = alphaN * x (ix3 i r j) + (∑ k, y (ix3 i r k) * wo (ix3 0 k j) + bo (ix2 0 j)) := by
  pointwise [res1R]

theorem upR_at (x1 : FVec Ideal S2x8192x1024 .f32) (wu : FVec Ideal S1x1024x5632 .f32)
    (i : Fin 2) (r : Fin 8192) (j : Fin 5632) : upR x1 wu (ix3 i r j) = ∑ k, x1 (ix3 i r k) * wu (ix3 0 k j) := by
  pointwise [upR]

theorem padR_at (u : FVec Ideal S2x8192x5632 .f32) (i : Fin 2) (r : Fin 8194) (j : Fin 5632) :
    padR u (ix3 i r j) = if h : 2 ≤ r.val ∧ r.val - 2 < 8192 then u (ix3 i ⟨r.val - 2, h.2⟩ j) else 0 := by
  have h0 : FloatOps.sitofp (F := Ideal) FTy.f32 0#32 = 0 := by
    show (((0#32).toInt : ℝ) : EReal) = 0
    simp
  pointwise [padR]
  rw [h0]

theorem convR_at (p : FVec Ideal S2x8194x5632 .f32) (w : FVec Ideal S1x3x5632 .f32) (b : FVec Ideal S1x5632 .f32)
    (i : Fin 2) (r : Fin 8192) (j : Fin 5632) :
    convR p w b (ix3 i r j) = p (ix3 i ⟨r.val, by omega⟩ j) * w (ix3 0 0 j) + p (ix3 i ⟨1 + r.val, by omega⟩ j) * w (ix3 0 1 j)
      + p (ix3 i ⟨2 + r.val, by omega⟩ j) * w (ix3 0 2 j) + b (ix2 0 j) := by
  pointwise [convR, tapR]

theorem gateR_at (h : FVec Ideal S2x8192x5632 .f32) (i : Fin 2) (r : Fin 8192) (j : Fin 2816) :
    gateR h (ix3 i r j) = h (ix3 i r ⟨j.val, by omega⟩) * Ideal.div 1 (1 + Ideal.exp (-h (ix3 i r ⟨j.val, by omega⟩)))
      * h (ix3 i r ⟨2816 + j.val, by omega⟩) := by
  pointwise [gateR]

theorem res2R_at (x1 : FVec Ideal S2x8192x1024 .f32) (a : FVec Ideal S2x8192x2816 .f32) (wd : FVec Ideal S1x2816x1024 .f32)
    (i : Fin 2) (r : Fin 8192) (j : Fin 1024) :
    res2R x1 a wd (ix3 i r j) = alphaN * x1 (ix3 i r j) + ∑ k, a (ix3 i r k) * wd (ix3 0 k j) := by
  pointwise [res2R]

/-- The reference at an index. -/
theorem REF_at (A : Args) (i : Fin 2) (r : Fin 8192) (j : Fin 1024) :
    REF A.x A.y A.wo A.bo A.g1 A.b1 A.wu A.fw A.fb A.wd A.g2 A.b2 (ix3 i r j) = A.out i r j := by
  have h1 : ∀ i r j, lnR (res1R A.x A.y A.wo A.bo) A.g1 A.b1 (ix3 i r j) = A.x1 i r j := fun i r j => by
    simp only [lnR_at, res1R_at]; rfl
  have h2 : ∀ i r j, upR (lnR (res1R A.x A.y A.wo A.bo) A.g1 A.b1) A.wu (ix3 i r j) = A.up i r j := fun i r j => by
    simp only [upR_at, h1]; rfl
  have h3 : ∀ i (r : Fin 8194) j, padR (upR (lnR (res1R A.x A.y A.wo A.bo) A.g1 A.b1) A.wu) (ix3 i r j) = A.upz i r j :=
    fun i r j => by simp only [padR_at, h2]; rfl
  have h4 : ∀ i (r : Fin 8192) j, convR (padR (upR (lnR (res1R A.x A.y A.wo A.bo) A.g1 A.b1) A.wu)) A.fw A.fb (ix3 i r j)
      = A.conv i r j := fun i r j => by simp only [convR_at, h3]; rfl
  have h5 : ∀ i (r : Fin 8192) j, gateR (convR (padR (upR (lnR (res1R A.x A.y A.wo A.bo) A.g1 A.b1) A.wu)) A.fw A.fb) (ix3 i r j)
      = A.act i r j := fun i r j => by simp only [gateR_at, h4]; rfl
  simp only [REF, lnR_at, res2R_at, h1, h5]
  rfl

end Cert.ReferenceIdeal.Value
-- ==== Proof.Pre.lean ====
module

public import proofs.«01_k».proof.Pre_finite
public import proofs.«01_k».proof.Proof.Ref
public import Idealize.ShloMosaic.Lib.ReduceAll

/-! The precondition, element by element. -/

set_option maxRecDepth 16384

@[expose] public section

noncomputable section
open Idealize.ShloMosaic Idealize.SL.Sem
namespace Cert.Proof

/-- The precondition's shape facts. -/
theorem preFacts : Cert.Pre_finite.Facts where
  bcast_S_S1x1024 := by decide
  reducesTo_S1x1024_S_d0_1 := by decide
  h_S_ := by decide
  bcast_S_S1x1024x5632 := by decide
  reducesTo_S1x1024x5632_S_d0_1_2 := by decide
  bcast_S_S1x3x5632 := by decide
  reducesTo_S1x3x5632_S_d0_1_2 := by decide

theorem ofBits_inf : Ideal.ofBits FTy.f32 0x7F800000#32 = ⊤ := by
  simp [Ideal.ofBits, Ideal.ieee]

/-- A magnitude under infinity is a real number's. -/
theorem fin_of_abs {s : Shape} (a : FVec Ideal s .f32) (c : FVec Ideal s .f32) (i : s.Idx) (hc : c i = ⊤)
    (h : cmpf .olt (Host.absf a) c i = 1#1) : Fin' (a i) := by
  have h2 : Ideal.cmp .olt (max (a i) (-(a i))) (c i) = 1#1 := h
  rw [hc] at h2
  have h3 : max (a i) (-(a i)) < (⊤ : EReal) := by
    by_contra hn
    simp [Ideal.cmp, hn] at h2
  revert h3
  generalize a i = z
  intro h3
  induction z using EReal.rec with
  | bot => simp at h3
  | top => simp at h3
  | coe r => exact ⟨r, rfl⟩

theorem and_split {s : Shape} (p q : IVec s 1) (i : s.Idx) (h : andi p q i = 1#1) : p i = 1#1 ∧ q i = 1#1 := by
  have h2 : p i &&& q i = 1#1 := h
  revert h2
  generalize p i = a
  generalize q i = b
  revert a b
  decide

open Cert.ReferenceIdeal.Value in
theorem pre_fin [Cert.Pre_finite.Facts] (A : Args)
    (h : Cert.Pre_finite.fn (F := Ideal) A.x A.y A.wo A.bo A.g1 A.b1 A.wu A.fw A.fb A.wd A.g2 A.b2 = fun _ => 1#1) :
    (∀ i, Fin' (A.g1 i)) ∧ (∀ i, Fin' (A.b1 i)) ∧ (∀ i, Fin' (A.wu i)) ∧ (∀ i, Fin' (A.fw i)) := by
  have h0 := congrFun h (Shape.Idx.first (s := Cert.Pre_finite.S_) (by decide))
  simp only [Cert.Pre_finite.fn, Cert.Pre_finite.fn_part1] at h0
  obtain ⟨h0, h4⟩ := and_split _ _ _ h0
  obtain ⟨h0, h3⟩ := and_split _ _ _ h0
  obtain ⟨h1, h2⟩ := and_split _ _ _ h0
  exact ⟨fun i => fin_of_abs _ _ i ofBits_inf (Host.reduce_andi_all _ _ _ _ _ h1 i),
    fun i => fin_of_abs _ _ i ofBits_inf (Host.reduce_andi_all _ _ _ _ _ h2 i),
    fun i => fin_of_abs _ _ i ofBits_inf (Host.reduce_andi_all _ _ _ _ _ h3 i),
    fun i => fin_of_abs _ _ i ofBits_inf (Host.reduce_andi_all _ _ _ _ _ h4 i)⟩

end Cert.Proof
-- ==== Proof.Spec.lean ====
module

public import proofs.«01_k».proof.Proof.Gen.KernelIdeal.Skeleton
public import Idealize.ShloMosaic.Lib.Pointwise
public import Idealize.ShloMosaic.Lib.Pipeline.Value
public import proofs.«01_k».proof.Proof.Math

/-! What one point of the kernel computes, as functions of an index: the rows' order in the planes, the feed-forward
part's row, the first norm's row. -/

set_option maxRecDepth 16384

@[expose] public section

noncomputable section
open Idealize.ShloMosaic Idealize.SL.Sem
namespace Cert.KernelIdeal.Value
open Cert.KernelIdeal Cert.KernelIdeal.Gen Cert.Proof

/-- The tile row that row `p` of the reordered tile holds. -/
def nr (p : Fin 512) : Fin 512 := ⟨64 * (p.val % 8) + p.val / 8, by omega⟩
/-- The reordered row that holds the tile row `r`. -/
def pr (r : Fin 512) : Fin 512 := ⟨8 * (r.val % 64) + r.val / 64, by omega⟩

theorem nr_pr (r : Fin 512) : nr (pr r) = r := by
  apply Fin.ext; simp only [nr, pr]; omega

/-- The reordered tile. -/
def xpF (X : Vec Ideal S512x1024 .f32) : FVec Ideal S512x1024 .bf16 := fun i => X (ix2 (nr (i 0)) (i 1))

/-- The planes of the reordered tile, 128 lanes each. -/
def permG (X : Vec Ideal S512x1024 .f32) : S8x512x128.Idx → Elt Ideal .f32 := fun i =>
  X (ix2 (nr (i 1)) ⟨128 * (i 0).val + (i 2).val, by have := (i 0).isLt; have := (i 2).isLt; simp only [S8x512x128] at *; simp at *; omega⟩)

theorem permInb (n : ℕ) : ∀ a, S1x8x128.size a = 0 ∨
    (![n / 64 % 8, 64 * (n % 8) + n / 8 % 8, 0] : Fin 3 → ℕ) a + (![1, 8, 1] : Fin 3 → ℕ) a * (S1x8x128.size a - 1) < S8x512x128.size a := by
  intro a; right; fin_cases a <;> simp [S1x8x128, S8x512x128] <;> omega

theorem permPos : ∀ a, 0 < (![1, 8, 1] : Fin 3 → ℕ) a := by decide
theorem permSl (n : ℕ) : S512x1024.Slices ![64 * (n / 8 % 8) + 8 * (n % 8), 128 * (n / 64 % 8)] S8x128 := by
  refine ⟨rfl, fun a => ?_⟩
  fin_cases a <;> simp [S512x1024, S8x128] <;> omega

/-- The `n`-th store into the planes. -/
def permPiece (X : Vec Ideal S512x1024 .f32) (n : ℕ) : View.Piece (Elt Ideal) S8x512x128 .f32 :=
  ⟨⟨⟨![n / 64 % 8, 64 * (n % 8) + n / 8 % 8, 0], S1x8x128.size, ![1, 8, 1], permInb n⟩, permPos⟩,
    shapeCast S1x8x128 (extractStridedSlice S8x128 ![64 * (n / 8 % 8) + 8 * (n % 8), 128 * (n / 64 % 8)] X (permSl n)) shapeCasts_S8x128_S1x8x128⟩

/-- The first `n` stores, the last of them first. -/
def permL (X : Vec Ideal S512x1024 .f32) : ℕ → List (View.Piece (Elt Ideal) S8x512x128 .f32)
  | 0 => []
  | n + 1 => permPiece X n :: permL X n

theorem mem_permL (X : Vec Ideal S512x1024 .f32) (n k : ℕ) (h : k < n) : permPiece X k ∈ permL X n := by
  induction n with
  | zero => omega
  | succ n ih =>
    rcases Nat.lt_succ_iff_lt_or_eq.mp h with h | rfl
    · exact List.mem_cons_of_mem _ (ih h)
    · exact List.mem_cons_self

theorem of_mem_permL (X : Vec Ideal S512x1024 .f32) (n : ℕ) (pc) (h : pc ∈ permL X n) : ∃ k < n, pc = permPiece X k := by
  induction n with
  | zero => simp [permL] at h
  | succ n ih =>
    rcases List.mem_cons.mp h with h | h
    · exact ⟨n, by omega, h⟩
    · obtain ⟨k, hk, e⟩ := ih h; exact ⟨k, by omega, e⟩

theorem permPiece_at (X : Vec Ideal S512x1024 .f32) (n : ℕ) (x : (permPiece X n).1.shape.Idx) :
    (permPiece X n).2 x = permG X ((permPiece X n).1.emb x) := by
  obtain ⟨a, b, c, rfl⟩ : ∃ (a : Fin 1) (b : Fin 8) (c : Fin 128), x = (ix3 a b c : S1x8x128.Idx) :=
    ⟨x 0, x 1, x 2, by funext i; fin_cases i <;> rfl⟩
  have e : (permPiece X n).2 (ix3 a b c) = X (ix2 ⟨64 * (n / 8 % 8) + 8 * (n % 8) + b.val, by omega⟩ ⟨128 * (n / 64 % 8) + c.val, by omega⟩) := by
    pointwise [permPiece]
  refine e.trans ?_
  unfold permG
  congr 1
  funext i
  apply Fin.ext
  fin_cases i
  · show _ = 64 * ((64 * (n % 8) + n / 8 % 8 + 8 * b.val) % 8) + (64 * (n % 8) + n / 8 % 8 + 8 * b.val) / 8
    show 64 * (n / 8 % 8) + 8 * (n % 8) + b.val = _
    omega
  · show 128 * (n / 64 % 8) + c.val = 128 * (n / 64 % 8 + 1 * a.val) + (0 + 1 * c.val)
    omega

theorem perm_cover (X : Vec Ideal S512x1024 .f32) (y : S8x512x128.Idx) : ∃ pc ∈ permL X 512, y ∈ pc.1.set := by
  obtain ⟨l, p, c, rfl⟩ : ∃ (l : Fin 8) (p : Fin 512) (c : Fin 128), y = ix3 l p c :=
    ⟨y 0, y 1, y 2, by funext i; fin_cases i <;> rfl⟩
  refine ⟨permPiece X (64 * l.val + 8 * (p.val % 8) + p.val / 64), mem_permL X _ _ (by omega), ?_⟩
  have h : (permPiece X (64 * l.val + 8 * (p.val % 8) + p.val / 64)).1.emb
      (ix3 (0 : Fin 1) (⟨p.val / 8 % 8, by omega⟩ : Fin 8) c : S1x8x128.Idx) = ix3 l p c := by
    funext i
    apply Fin.ext
    fin_cases i
    · show (64 * l.val + 8 * (p.val % 8) + p.val / 64) / 64 % 8 + 1 * 0 = l.val
      have h1 : p.val % 8 < 8 := by omega
      have h2 : p.val / 64 < 8 := by omega
      have h3 := l.isLt
      generalize p.val % 8 = s at *
      generalize p.val / 64 = u at *
      omega
    · have h1 : p.val % 8 < 8 := by omega
      have h2 : p.val / 64 < 8 := by omega
      have h3 := l.isLt
      have h4 : (64 * l.val + 8 * (p.val % 8) + p.val / 64) % 8 = p.val / 64 := by omega
      have h5 : (64 * l.val + 8 * (p.val % 8) + p.val / 64) / 8 % 8 = p.val % 8 := by
        generalize p.val % 8 = s at *
        generalize p.val / 64 = u at *
        omega
      show 64 * ((64 * l.val + 8 * (p.val % 8) + p.val / 64) % 8) + (64 * l.val + 8 * (p.val % 8) + p.val / 64) / 8 % 8 + 8 * (p.val / 8 % 8) = p.val
      rw [h4, h5]
      omega
    · show 0 + 1 * c.val = c.val
      omega
  rw [← h]
  exact LoadRect.idx_mem _ _

theorem perm_canon (X : Vec Ideal S512x1024 .f32) : View.canon (permL X 512) = permG X := by
  funext y
  refine View.canon_apply_of_pieces (permG X) _ (fun p hp x => ?_) y (perm_cover X y)
  obtain ⟨k, -, rfl⟩ := of_mem_permL X 512 p hp
  exact permPiece_at X k x

/-! ### The plane the result goes through -/

theorem natInb (n : ℕ) : ∀ a, S1x8x128.size a = 0 ∨
    (![n / 64 % 8, n % 64, 0] : Fin 3 → ℕ) a + (![1, 72, 1] : Fin 3 → ℕ) a * (S1x8x128.size a - 1) < S8x576x128.size a := by
  intro a; right; fin_cases a <;> simp [S1x8x128, S8x576x128] <;> omega

theorem natPos : ∀ a, 0 < (![1, 72, 1] : Fin 3 → ℕ) a := by decide
theorem natSl (n : ℕ) : S512x1024.Slices ![8 * (n % 64), 128 * (n / 64 % 8)] S8x128 := by
  refine ⟨rfl, fun a => ?_⟩
  fin_cases a <;> simp [S512x1024, S8x128] <;> omega

/-- The `n`-th store of the reordered result. -/
def natPiece (O : FVec Ideal S512x1024 .f32) (n : ℕ) : View.Piece (Elt Ideal) S8x576x128 .f32 :=
  ⟨⟨⟨![n / 64 % 8, n % 64, 0], S1x8x128.size, ![1, 72, 1], natInb n⟩, natPos⟩,
    shapeCast S1x8x128 (extractStridedSlice S8x128 ![8 * (n % 64), 128 * (n / 64 % 8)] O (natSl n)) shapeCasts_S8x128_S1x8x128⟩

/-- The first `n` stores, the last of them first. -/
def natL (O : FVec Ideal S512x1024 .f32) : ℕ → List (View.Piece (Elt Ideal) S8x576x128 .f32)
  | 0 => []
  | n + 1 => natPiece O n :: natL O n

theorem mem_natL (O : FVec Ideal S512x1024 .f32) (n k : ℕ) (h : k < n) : natPiece O k ∈ natL O n := by
  induction n with
  | zero => omega
  | succ n ih =>
    rcases Nat.lt_succ_iff_lt_or_eq.mp h with h | rfl
    · exact List.mem_cons_of_mem _ (ih h)
    · exact List.mem_cons_self

theorem of_mem_natL (O : FVec Ideal S512x1024 .f32) (n : ℕ) (pc) (h : pc ∈ natL O n) : ∃ k < n, pc = natPiece O k := by
  induction n with
  | zero => simp [natL] at h
  | succ n ih =>
    rcases List.mem_cons.mp h with h | h
    · exact ⟨n, by omega, h⟩
    · obtain ⟨k, hk, e⟩ := ih h; exact ⟨k, by omega, e⟩

/-- The plane's contents: row `72 s + v` holds the reordered row `8 v + s`. -/
def natG (O : FVec Ideal S512x1024 .f32) : S8x576x128.Idx → Elt Ideal .f32 := fun i =>
  O (ix2 ⟨(8 * ((i 1).val % 72) + (i 1).val / 72) % 512, by omega⟩ ⟨(128 * (i 0).val + (i 2).val) % 1024, by omega⟩)

theorem natPiece_at (O : FVec Ideal S512x1024 .f32) (n : ℕ) (x : (natPiece O n).1.shape.Idx) :
    (natPiece O n).2 x = natG O ((natPiece O n).1.emb x) := by
  obtain ⟨a, b, c, rfl⟩ : ∃ (a : Fin 1) (b : Fin 8) (c : Fin 128), x = (ix3 a b c : S1x8x128.Idx) :=
    ⟨x 0, x 1, x 2, by funext i; fin_cases i <;> rfl⟩
  have e : (natPiece O n).2 (ix3 a b c) = O (ix2 ⟨8 * (n % 64) + b.val, by omega⟩ ⟨128 * (n / 64 % 8) + c.val, by omega⟩) := by
    pointwise [natPiece]
  refine e.trans ?_
  unfold natG
  congr 1
  funext i
  apply Fin.ext
  fin_cases i
  · show 8 * (n % 64) + b.val = (8 * ((n % 64 + 72 * b.val) % 72) + (n % 64 + 72 * b.val) / 72) % 512
    have h1 : (n % 64 + 72 * b.val) % 72 = n % 64 := by omega
    have h2 : (n % 64 + 72 * b.val) / 72 = b.val := by omega
    rw [h1, h2]
    omega
  · show 128 * (n / 64 % 8) + c.val = (128 * (n / 64 % 8 + 1 * a.val) + (0 + 1 * c.val)) % 1024
    omega

theorem nat_canon (O : FVec Ideal S512x1024 .f32) (l : Fin 8) (q : Fin 576) (c : Fin 128) (hq : q.val % 72 < 64) :
    View.canon (natL O 512) (ix3 l q c) = O (ix2 ⟨8 * (q.val % 72) + q.val / 72, by omega⟩ ⟨128 * l.val + c.val, by omega⟩) := by
  have hL : ∀ p ∈ natL O 512, ∀ x : p.1.shape.Idx, p.2 x = natG O (p.1.emb x) := fun p hp x => by
    obtain ⟨k, -, rfl⟩ := of_mem_natL O 512 p hp
    exact natPiece_at O k x
  rw [View.canon_apply_of_pieces (natG O) _ hL (ix3 l q c) ?_]
  · unfold natG
    congr 1
    funext i
    apply Fin.ext
    fin_cases i
    · show (8 * (q.val % 72) + q.val / 72) % 512 = 8 * (q.val % 72) + q.val / 72
      omega
    · show (128 * l.val + c.val) % 1024 = _
      show _ = 128 * l.val + c.val
      omega
  · refine ⟨natPiece O (64 * l.val + q.val % 72), mem_natL O _ _ (by omega), ?_⟩
    have h : (natPiece O (64 * l.val + q.val % 72)).1.emb
        (ix3 (0 : Fin 1) (⟨q.val / 72, by omega⟩ : Fin 8) c : S1x8x128.Idx) = ix3 l q c := by
      funext i
      apply Fin.ext
      fin_cases i
      · show (64 * l.val + q.val % 72) / 64 % 8 + 1 * 0 = l.val
        omega
      · show (64 * l.val + q.val % 72) % 64 + 72 * (q.val / 72) = q.val
        omega
      · show 0 + 1 * c.val = c.val
        omega
    rw [← h]
    exact LoadRect.idx_mem _ _

end Cert.KernelIdeal.Value
-- ==== Proof.Body.lean ====
module

public import proofs.«01_k».proof.Proof.Spec

/-! One point's feed-forward part over what it reads, and its value at an index. -/

set_option maxRecDepth 16384

@[expose] public section

noncomputable section
open Idealize.ShloMosaic Idealize.SL.Sem
namespace Cert.KernelIdeal.Value
open Cert.KernelIdeal Cert.KernelIdeal.Gen Cert.Proof

/-- What a point reads: the planes, the up projection's column blocks, the taps and the bias of both halves, the down
projection's two blocks of rows, the second norm's scale and shift. -/
structure Reads where
  pl : ℕ → Vec Ideal S1x512x128 .f32
  wg : ℕ → Vec Ideal S1024x256 .bf16
  wu : ℕ → Vec Ideal S1024x256 .bf16
  fg : ℕ → ℕ → Vec Ideal S1x256 .f32
  fu : ℕ → ℕ → Vec Ideal S1x256 .f32
  bg : ℕ → Vec Ideal S1x256 .f32
  bu : ℕ → Vec Ideal S1x256 .f32
  d1 : Vec Ideal S2048x1024 .bf16
  d2 : Vec Ideal S768x1024 .bf16
  g2 : Vec Ideal S1x1024 .f32
  b2 : Vec Ideal S1x1024 .f32

def xpb (R : Reads) : FVec Ideal S512x1024 .bf16 :=
  k0_pay585 (k0_pay584 (R.pl 0)) (R.pl 1) (R.pl 2) (R.pl 3) (R.pl 4) (R.pl 5) (R.pl 6) (R.pl 7)

def upC (xp : FVec Ideal S512x1024 .bf16) (w : FVec Ideal S1024x256 .bf16) : FVec Ideal S512x256 .f32 :=
  matmul dot_S512x1024_S1024x256_S512x256_1_0_0_1_n_n none xp w (constant S512x256 .f32 0x00000000#32)

/-- The rows a point leaves for the next. -/
def carC (u : FVec Ideal S512x256 .f32) : FVec Ideal S1x16x256 .f32 :=
  shapeCast S1x16x256 (extractStridedSlice S16x256 ![496, 0] u slices_S512x256_o496_0_S16x256) shapeCasts_S16x256_S1x16x256

def neg3 (u : FVec Ideal S512x256 .f32) (car : Vec Ideal S1x16x256 .f32) (f0 f1 f2 fb : Vec Ideal S1x256 .f32) :
    FVec Ideal S512x256 .f32 := k0_pay591 k0_pay587 u (k0_pay589 car) f0 f1 f2 fb

def actC (ng nu : FVec Ideal S512x256 .f32) : FVec Ideal S512x256 .bf16 :=
  shapeCast S512x256 (truncf .bf16 (mulf (mulf ng nu) (divf (broadcast S512x256 (Scalar.ofBits .f32 0x3F800000#32))
    (addf (broadcast S512x256 (Scalar.ofBits .f32 0x3F800000#32)) (exp ng)))) bitsLt_bf16_f32) shapeCasts_S512x256_S512x256

def chunkA (R : Reads) (cg cu : ℕ → Vec Ideal S1x16x256 .f32) (n : ℕ) : FVec Ideal S512x256 .bf16 :=
  actC (neg3 (upC (xpb R) (R.wg n)) (cg n) (R.fg 0 n) (R.fg 1 n) (R.fg 2 n) (R.bg n))
    (neg3 (upC (xpb R) (R.wu n)) (cu n) (R.fu 0 n) (R.fu 1 n) (R.fu 2 n) (R.bu n))

theorem actInb (n : ℕ) : ∀ a, (![0, 256 * (n % 11)] : Fin 2 → ℕ) a + S512x256.size a ≤ S512x2816.size a := by
  intro a; fin_cases a <;> simp [S512x256, S512x2816]; omega

def actPiece (R : Reads) (cg cu : ℕ → Vec Ideal S1x16x256 .f32) (n : ℕ) : View.Piece (Elt Ideal) S512x2816 .bf16 :=
  ⟨Rect.unit ![0, 256 * (n % 11)] S512x256.size (actInb n), chunkA R cg cu n⟩

def actL (R : Reads) (cg cu : ℕ → Vec Ideal S1x16x256 .f32) : ℕ → List (View.Piece (Elt Ideal) S512x2816 .bf16)
  | 0 => []
  | n + 1 => actPiece R cg cu n :: actL R cg cu n

def ffnC (R : Reads) (a1 : Vec Ideal S512x2048 .bf16) (a2 : Vec Ideal S512x768 .bf16) : FVec Ideal S512x1024 .f32 :=
  k0_pay758 (k0_pay709 a1 R.d1) a2 R.d2

def resC (R : Reads) (a1 : Vec Ideal S512x2048 .bf16) (a2 : Vec Ideal S512x768 .bf16) : FVec Ideal S512x1024 .f32 :=
  k0_pay764 (k0_pay760 R.g2) (k0_pay761 R.b2)
    (k0_pay762 (ffnC R a1 a2) (R.pl 0) (R.pl 1) (R.pl 2) (R.pl 3) (R.pl 4) (R.pl 5) (R.pl 6) (R.pl 7))
    (k0_pay763 (ffnC R a1 a2) (R.pl 0) (R.pl 1) (R.pl 2) (R.pl 3) (R.pl 4) (R.pl 5) (R.pl 6) (R.pl 7))

theorem outInb (n : ℕ) : ∀ a, (![0, 64 * (n % 8), 128 * (n / 8 % 8)] : Fin 3 → ℕ) a + S1x64x128.size a ≤ S1x512x1024.size a := by
  intro a; fin_cases a <;> simp [S1x64x128, S1x512x1024] <;> omega

def outPiece (rd : ℕ → Vec Ideal S1x64x128 .f32) (n : ℕ) : View.Piece (Elt Ideal) S1x512x1024 .f32 :=
  ⟨Rect.unit ![0, 64 * (n % 8), 128 * (n / 8 % 8)] S1x64x128.size (outInb n), k0_pay1 (rd n)⟩

def outL (rd : ℕ → Vec Ideal S1x64x128 .f32) : ℕ → List (View.Piece (Elt Ideal) S1x512x1024 .f32)
  | 0 => []
  | n + 1 => outPiece rd n :: outL rd n

theorem carInb (n : ℕ) : ∀ a, (![n % 11, 0, 0] : Fin 3 → ℕ) a + S1x16x256.size a ≤ S11x16x256.size a := by
  intro a; fin_cases a <;> simp [S1x16x256, S11x16x256]; omega

/-- The first `n` stores of the rows left, over the stores before them. -/
def carL (up : ℕ → FVec Ideal S512x256 .f32) (L₀ : List (View.Piece (Elt Ideal) S11x16x256 .f32)) :
    ℕ → List (View.Piece (Elt Ideal) S11x16x256 .f32)
  | 0 => L₀
  | n + 1 => ⟨Rect.unit ![n % 11, 0, 0] S1x16x256.size (carInb n), carC (up n)⟩ :: carL up L₀ n

/-! ### Values at an index -/

theorem upC_at (xp : FVec Ideal S512x1024 .bf16) (w : Vec Ideal S1024x256 .bf16) (p : Fin 512) (c : Fin 256) :
    upC xp w (ix2 p c) = ∑ k, xp (ix2 p k) * w (ix2 k c) := by
  pointwise [upC]

theorem carC_at (u : FVec Ideal S512x256 .f32) (q : Fin 16) (c : Fin 256) :
    carC u (ix3 0 q c) = u (ix2 ⟨496 + q.val, by omega⟩ c) := by
  pointwise [carC]

/-- The value one row up, and two. -/
def tap1 (u : Fin 512 → EReal) (k : Fin 16 → EReal) (p : Fin 512) : EReal :=
  if h : p.val < 8 then (if p.val = 0 then k 15 else u ⟨504 + (p.val + 8 - 1) % 8, by omega⟩) else u ⟨p.val - 8, by omega⟩
def tap2 (u : Fin 512 → EReal) (k : Fin 16 → EReal) (p : Fin 512) : EReal :=
  if h : p.val < 8 then (if p.val = 0 then k 7 else u ⟨496 + (p.val + 8 - 1) % 8, by omega⟩)
  else if h : p.val - 8 < 8 then (if p.val - 8 = 0 then k 15 else u ⟨504 + (p.val - 8 + 8 - 1) % 8, by omega⟩)
  else u ⟨p.val - 8 - 8, by omega⟩

def neg3V (u : Fin 512 → EReal) (k : Fin 16 → EReal) (f0 f1 f2 b : EReal) (p : Fin 512) : EReal :=
  (0 - f2) * u p + ((0 - f1) * tap1 u k p + ((0 - f0) * tap2 u k p - b))

theorem sel_eq (n : ℕ) (h : n < 8) (a b : EReal) :
    Scalar.select (IntOp.cmpi .eq (BitVec.ofNat 32 n) 0#32) a b = if n = 0 then a else b := by
  interval_cases n <;> rfl

theorem neg3_at (u : FVec Ideal S512x256 .f32) (car : Vec Ideal S1x16x256 .f32) (f0 f1 f2 fb : Vec Ideal S1x256 .f32)
    (p : Fin 512) (c : Fin 256) :
    neg3 u car f0 f1 f2 fb (ix2 p c) = neg3V (fun p => u (ix2 p c)) (fun q => car (ix3 0 q c))
      (f0 (ix2 0 c)) (f1 (ix2 0 c)) (f2 (ix2 0 c)) (fb (ix2 0 c)) p := by
  pointwise [neg3, k0_pay591, k0_pay587, k0_pay589]
  unfold neg3V tap1 tap2
  refine congrArg₂ (· + ·) rfl (congrArg₂ (· + ·) (congrArg₂ (· * ·) rfl ?_) (congrArg₂ (· - ·) (congrArg₂ (· * ·) rfl ?_) rfl))
  · by_cases h : p.val < 8
    · rw [dif_pos h, dif_pos h, sel_eq _ h]
      split_ifs with h0 <;> first
        | exact absurd rfl ‹_›
        | exact congrArg (fun q => car (ix3 0 q c)) (Fin.ext (by show 8 + (p.val + 8 - 1) % 8 = 15; omega))
        | rfl
    · rw [dif_neg h, dif_neg h]
  · by_cases h : p.val < 8
    · rw [dif_pos h, dif_pos h, sel_eq _ h]
      split_ifs with h0 <;> first
        | exact absurd rfl ‹_›
        | exact congrArg (fun q => car (ix3 0 q c)) (Fin.ext (by show (p.val + 8 - 1) % 8 = 7; omega))
        | rfl
    · rw [dif_neg h, dif_neg h]
      by_cases h' : p.val - 8 < 8
      · rw [dif_pos h', dif_pos h', sel_eq _ h']
        split_ifs with h0 <;> first
          | exact absurd rfl ‹_›
          | exact congrArg (fun q => car (ix3 0 q c)) (Fin.ext (by show 8 + (p.val - 8 + 8 - 1) % 8 = 15; omega))
          | rfl
      · rw [dif_neg h', dif_neg h']

/-- The gated value of two negated sums. -/
def actV (ng nu : EReal) : EReal := ng * nu * Ideal.div 1 (1 + Ideal.exp ng)

theorem actC_at (ng nu : FVec Ideal S512x256 .f32) (p : Fin 512) (c : Fin 256) :
    actC ng nu (ix2 p c) = actV (ng (ix2 p c)) (nu (ix2 p c)) := by
  pointwise [actC]
  rfl

theorem xpb_at (R : Reads) (p : Fin 512) (k : Fin 1024) :
    xpb R (ix2 p k) = R.pl (k.val / 128) (ix3 0 p ⟨k.val % 128, by omega⟩) := by
  have e : ∀ (n m : ℕ) (h : m < 128), n = k.val / 128 → m = k.val % 128 →
      R.pl n (ix3 0 p ⟨m, h⟩) = R.pl (k.val / 128) (ix3 0 p ⟨k.val % 128, by omega⟩) := by
    rintro n m h rfl rfl; rfl
  pointwise [xpb, k0_pay585, k0_pay584]
  have hk := k.isLt
  split_ifs <;> exact e _ _ _ (by omega) (by omega)

theorem ffnC_at (R : Reads) (a1 : Vec Ideal S512x2048 .bf16) (a2 : Vec Ideal S512x768 .bf16) (p : Fin 512) (j : Fin 1024) :
    ffnC R a1 a2 (ix2 p j) = (∑ k, a1 (ix2 p k) * R.d1 (ix2 k j)) + ∑ k, a2 (ix2 p k) * R.d2 (ix2 k j) := by
  pointwise [ffnC, k0_pay758, k0_pay709]

theorem resC_at (R : Reads) (a1 : Vec Ideal S512x2048 .bf16) (a2 : Vec Ideal S512x768 .bf16) (p : Fin 512) (j : Fin 1024) :
    resC R a1 a2 (ix2 p j) = ln (fun k => alphaN * xpb R (ix2 p k) + ffnC R a1 a2 (ix2 p k)) (R.g2 (ix2 0 j)) (R.b2 (ix2 0 j)) j := by
  have h : ∀ k, k0_pay762 (ffnC R a1 a2) (R.pl 0) (R.pl 1) (R.pl 2) (R.pl 3) (R.pl 4) (R.pl 5) (R.pl 6) (R.pl 7) (ix2 p k)
      = dev (fun k => alphaN * xpb R (ix2 p k) + ffnC R a1 a2 (ix2 p k)) k := by
    intro k
    have e : k0_pay762 (ffnC R a1 a2) (R.pl 0) (R.pl 1) (R.pl 2) (R.pl 3) (R.pl 4) (R.pl 5) (R.pl 6) (R.pl 7)
      = subf (addf (mulf (broadcast S512x1024 (Scalar.ofBits .f32 0x3F9837F0#32)) (xpb R)) (ffnC R a1 a2))
        (broadcastTo S512x1024 (divf (shapeCast S512x1 (multiReduction .add [1] S512
          (addf (mulf (broadcast S512x1024 (Scalar.ofBits .f32 0x3F9837F0#32)) (xpb R)) (ffnC R a1 a2)) 0x00000000#32 reduces_S512x1024_S512 (.inl rfl) rfl)
          shapeCasts_S512_S512x1) (broadcast S512x1 (Scalar.ofBits .f32 0x44800000#32))) broadcasts_S512x1_S512x1024) := rfl
    rw [e]
    generalize xpb R = x
    generalize ffnC R a1 a2 = f
    pointwise []
    rfl
  unfold resC k0_pay763
  generalize k0_pay762 (ffnC R a1 a2) (R.pl 0) (R.pl 1) (R.pl 2) (R.pl 3) (R.pl 4) (R.pl 5) (R.pl 6) (R.pl 7) = d at h ⊢
  pointwise [k0_pay764, k0_pay760, k0_pay761]
  unfold ln rstd
  simp only [h]

/-- The up projection of the reordered row `p` at column `j`. -/
def upP (X : Vec Ideal S512x1024 .f32) (W : Vec Ideal S1024x5632 .bf16) (p : Fin 512) (j : Fin 5632) : EReal :=
  ∑ k, X (ix2 (nr p) k) * W (ix2 k j)

def colG (j : Fin 2816) : Fin 5632 := ⟨j.val, by omega⟩
def colU (j : Fin 2816) : Fin 5632 := ⟨2816 + j.val, by omega⟩
def col (n : Fin 11) (c : Fin 256) : Fin 2816 := ⟨256 * n.val + c.val, by omega⟩

/-- The gated value of the reordered row `p` at column `j`, over the rows `KG`, `KU` left by the point before. -/
def actP (X : Vec Ideal S512x1024 .f32) (W : Vec Ideal S1024x5632 .bf16) (F : Vec Ideal S3x5632 .f32) (B : Vec Ideal S1x5632 .f32)
    (KG KU : Fin 16 → Fin 2816 → EReal) (p : Fin 512) (j : Fin 2816) : EReal :=
  actV
    (neg3V (fun p => upP X W p (colG j)) (fun q => KG q j) (F (ix2 0 (colG j))) (F (ix2 1 (colG j))) (F (ix2 2 (colG j))) (B (ix2 0 (colG j))) p)
    (neg3V (fun p => upP X W p (colU j)) (fun q => KU q j) (F (ix2 0 (colU j))) (F (ix2 1 (colU j))) (F (ix2 2 (colU j))) (B (ix2 0 (colU j))) p)

def actG (X : Vec Ideal S512x1024 .f32) (W : Vec Ideal S1024x5632 .bf16) (F : Vec Ideal S3x5632 .f32) (B : Vec Ideal S1x5632 .f32)
    (KG KU : Fin 16 → Fin 2816 → EReal) : S512x2816.Idx → Elt Ideal .bf16 := fun y => actP X W F B KG KU (y 0) (y 1)

/-- The result's row. -/
def resP (X : Vec Ideal S512x1024 .f32) (W : Vec Ideal S1024x5632 .bf16) (D : Vec Ideal S2816x1024 .bf16) (F : Vec Ideal S3x5632 .f32)
    (B : Vec Ideal S1x5632 .f32) (g b : Vec Ideal S1x1024 .f32) (KG KU : Fin 16 → Fin 2816 → EReal) (p : Fin 512) (j : Fin 1024) : EReal :=
  ln (fun k => alphaN * X (ix2 (nr p) k) +
      ((∑ x : Fin 2048, actP X W F B KG KU p ⟨x.val, by omega⟩ * D (ix2 ⟨x.val, by omega⟩ k)) +
        ∑ x : Fin 768, actP X W F B KG KU p ⟨2048 + x.val, by omega⟩ * D (ix2 ⟨2048 + x.val, by omega⟩ k)))
    (g (ix2 0 j)) (b (ix2 0 j)) j

/-- The reads are blocks of whole arrays. -/
structure Good (R : Reads) (X : Vec Ideal S512x1024 .f32) (W : Vec Ideal S1024x5632 .bf16) (D : Vec Ideal S2816x1024 .bf16)
    (F : Vec Ideal S3x5632 .f32) (B : Vec Ideal S1x5632 .f32) (g b : Vec Ideal S1x1024 .f32) : Prop where
  pl : ∀ (l : Fin 8) (p : Fin 512) (c : Fin 128), R.pl l.val (ix3 0 p c) = X (ix2 (nr p) ⟨128 * l.val + c.val, by omega⟩)
  wg : ∀ (n : Fin 11) (k : Fin 1024) (c : Fin 256), R.wg n.val (ix2 k c) = W (ix2 k (colG (col n c)))
  wu : ∀ (n : Fin 11) (k : Fin 1024) (c : Fin 256), R.wu n.val (ix2 k c) = W (ix2 k (colU (col n c)))
  fg : ∀ (j : Fin 3) (n : Fin 11) (c : Fin 256), R.fg j.val n.val (ix2 0 c) = F (ix2 j (colG (col n c)))
  fu : ∀ (j : Fin 3) (n : Fin 11) (c : Fin 256), R.fu j.val n.val (ix2 0 c) = F (ix2 j (colU (col n c)))
  bg : ∀ (n : Fin 11) (c : Fin 256), R.bg n.val (ix2 0 c) = B (ix2 0 (colG (col n c)))
  bu : ∀ (n : Fin 11) (c : Fin 256), R.bu n.val (ix2 0 c) = B (ix2 0 (colU (col n c)))
  d1 : ∀ (k : Fin 2048) (j : Fin 1024), R.d1 (ix2 k j) = D (ix2 ⟨k.val, by omega⟩ j)
  d2 : ∀ (k : Fin 768) (j : Fin 1024), R.d2 (ix2 k j) = D (ix2 ⟨2048 + k.val, by omega⟩ j)
  g2 : R.g2 = g
  b2 : R.b2 = b

section
variable {R : Reads} {X : Vec Ideal S512x1024 .f32} {W : Vec Ideal S1024x5632 .bf16} {D : Vec Ideal S2816x1024 .bf16}
  {F : Vec Ideal S3x5632 .f32} {B : Vec Ideal S1x5632 .f32} {g b : Vec Ideal S1x1024 .f32} (hR : Good R X W D F B g b)
  {cg cu : ℕ → Vec Ideal S1x16x256 .f32} {KG KU : Fin 16 → Fin 2816 → EReal}
  (hcg : ∀ (n : Fin 11) (q : Fin 16) (c : Fin 256), cg n.val (ix3 0 q c) = KG q (col n c))
  (hcu : ∀ (n : Fin 11) (q : Fin 16) (c : Fin 256), cu n.val (ix3 0 q c) = KU q (col n c))
include hR

theorem Good.xpb (p : Fin 512) (k : Fin 1024) : xpb R (ix2 p k) = X (ix2 (nr p) k) := by
  rw [xpb_at, hR.pl ⟨k.val / 128, by omega⟩ p ⟨k.val % 128, by omega⟩]
  congr 2
  apply Fin.ext
  show 128 * (k.val / 128) + k.val % 128 = k.val
  omega

theorem Good.upg (n : Fin 11) (p : Fin 512) (c : Fin 256) :
    upC (Value.xpb R) (R.wg n.val) (ix2 p c) = upP X W p (colG (col n c)) := by
  rw [upC_at]
  exact Finset.sum_congr rfl fun k _ => by rw [hR.xpb, hR.wg]

theorem Good.upu (n : Fin 11) (p : Fin 512) (c : Fin 256) :
    upC (Value.xpb R) (R.wu n.val) (ix2 p c) = upP X W p (colU (col n c)) := by
  rw [upC_at]
  exact Finset.sum_congr rfl fun k _ => by rw [hR.xpb, hR.wu]

include hcg hcu

theorem Good.chunk (n : Fin 11) (p : Fin 512) (c : Fin 256) :
    chunkA R cg cu n.val (ix2 p c) = actP X W F B KG KU p (col n c) := by
  unfold chunkA actP
  rw [actC_at, neg3_at, neg3_at]
  simp only [hR.upg, hR.upu, hcg, hcu]
  rw [show R.fg 0 n.val (ix2 0 c) = _ from hR.fg 0 n c, show R.fg 1 n.val (ix2 0 c) = _ from hR.fg 1 n c,
    show R.fg 2 n.val (ix2 0 c) = _ from hR.fg 2 n c, show R.fu 0 n.val (ix2 0 c) = _ from hR.fu 0 n c,
    show R.fu 1 n.val (ix2 0 c) = _ from hR.fu 1 n c, show R.fu 2 n.val (ix2 0 c) = _ from hR.fu 2 n c, hR.bg, hR.bu]

theorem Good.act_canon (N : ℕ) (hN : N ≤ 11) (p : Fin 512) (j : Fin 2816) (hj : j.val < 256 * N) :
    View.canon (actL R cg cu N) (ix2 p j) = actP X W F B KG KU p j := by
  have mem : ∀ (m : ℕ) (k : ℕ), k < m → actPiece R cg cu k ∈ actL R cg cu m := by
    intro m k h
    induction m with
    | zero => omega
    | succ m ih =>
      rcases Nat.lt_succ_iff_lt_or_eq.mp h with h | rfl
      · exact List.mem_cons_of_mem _ (ih h)
      · exact List.mem_cons_self
  have of : ∀ (m : ℕ) (pc), pc ∈ actL R cg cu m → ∃ k < m, pc = actPiece R cg cu k := by
    intro m pc h
    induction m with
    | zero => simp [actL] at h
    | succ m ih =>
      rcases List.mem_cons.mp h with h | h
      · exact ⟨m, by omega, h⟩
      · obtain ⟨k, hk, e⟩ := ih h; exact ⟨k, by omega, e⟩
  refine (View.canon_apply_of_pieces (actG X W F B KG KU) _ (fun pc hp x => ?_) (ix2 p j) ?_)
  · obtain ⟨k, hk, rfl⟩ := of _ _ hp
    obtain ⟨a, c, rfl⟩ : ∃ (a : Fin 512) (c : Fin 256), x = (ix2 a c : S512x256.Idx) :=
      ⟨x 0, x 1, by funext i; fin_cases i <;> rfl⟩
    refine (hR.chunk hcg hcu ⟨k, by omega⟩ a c).trans ?_
    refine congrArg₂ _ (Fin.ext ?_) (Fin.ext ?_)
    · show a.val = 0 + 1 * a.val
      omega
    · show 256 * k + c.val = 256 * (k % 11) + 1 * c.val
      omega
  · refine ⟨actPiece R cg cu (j.val / 256), mem _ _ (by omega), ?_⟩
    have h : (actPiece R cg cu (j.val / 256)).1.emb (ix2 p (⟨j.val % 256, by omega⟩ : Fin 256) : S512x256.Idx) = ix2 p j := by
      funext i
      apply Fin.ext
      fin_cases i
      · show 0 + 1 * p.val = p.val
        omega
      · show 256 * (j.val / 256 % 11) + 1 * (j.val % 256) = j.val
        omega
    rw [← h]
    exact LoadRect.idx_mem _ _

theorem Good.res {a1 : Vec Ideal S512x2048 .bf16} {a2 : Vec Ideal S512x768 .bf16}
    (h1 : ∀ (p : Fin 512) (x : Fin 2048), a1 (ix2 p x) = View.canon (actL R cg cu 8) (ix2 p ⟨x.val, by omega⟩))
    (h2 : ∀ (p : Fin 512) (x : Fin 768), a2 (ix2 p x) = View.canon (actL R cg cu 11) (ix2 p ⟨2048 + x.val, by omega⟩))
    (p : Fin 512) (j : Fin 1024) : resC R a1 a2 (ix2 p j) = resP X W D F B g b KG KU p j := by
  rw [resC_at, hR.g2, hR.b2]
  unfold resP
  congr 1
  funext k
  rw [hR.xpb, ffnC_at]
  congr 1
  refine congrArg₂ (· + ·) (Finset.sum_congr rfl fun x _ => ?_) (Finset.sum_congr rfl fun x _ => ?_)
  · rw [h1, hR.d1, hR.act_canon hcg hcu 8 (by omega) p _ (by show x.val < _; omega)]
  · rw [h2, hR.d2, hR.act_canon hcg hcu 11 (by omega) p _ (by show 2048 + x.val < _; omega)]

end

def outG (O : FVec Ideal S512x1024 .f32) : S1x512x1024.Idx → Elt Ideal .f32 := fun y => O (ix2 (pr (y 1)) (y 2))

theorem out_canon (O : FVec Ideal S512x1024 .f32) (rd : ℕ → Vec Ideal S1x64x128 .f32)
    (h : ∀ (n : ℕ) (v : Fin 64) (c : Fin 128), n < 64 → rd n (ix3 0 v c) =
      View.canon (natL O 512) (ix3 (⟨n / 8 % 8, by omega⟩ : Fin 8) ⟨72 * (n % 8) + v.val, by omega⟩ c))
    (r : Fin 512) (j : Fin 1024) :
    View.canon (outL rd 64) (ix3 0 r j) = O (ix2 (pr r) j) := by
  have mem : ∀ (m : ℕ) (k : ℕ), k < m → outPiece rd k ∈ outL rd m := by
    intro m k h
    induction m with
    | zero => omega
    | succ m ih =>
      rcases Nat.lt_succ_iff_lt_or_eq.mp h with h | rfl
      · exact List.mem_cons_of_mem _ (ih h)
      · exact List.mem_cons_self
  have of : ∀ (m : ℕ) (pc), pc ∈ outL rd m → ∃ k < m, pc = outPiece rd k := by
    intro m pc h
    induction m with
    | zero => simp [outL] at h
    | succ m ih =>
      rcases List.mem_cons.mp h with h | h
      · exact ⟨m, by omega, h⟩
      · obtain ⟨k, hk, e⟩ := ih h; exact ⟨k, by omega, e⟩
  refine (View.canon_apply_of_pieces (outG O) _ (fun pc hp x => ?_) (ix3 0 r j) ?_)
  · obtain ⟨k, hk, rfl⟩ := of _ _ hp
    obtain ⟨a, v, c, rfl⟩ : ∃ (a : Fin 1) (v : Fin 64) (c : Fin 128), x = (ix3 a v c : S1x64x128.Idx) :=
      ⟨x 0, x 1, x 2, by funext i; fin_cases i <;> rfl⟩
    obtain rfl : a = 0 := Subsingleton.elim _ _
    have e : k0_pay1 (rd k) (ix3 0 v c) = rd k (ix3 0 v c) := by pointwise [k0_pay1]
    have hv := v.isLt
    refine e.trans ((h k v c hk).trans ((nat_canon O _ _ c ?_).trans ?_))
    · show (72 * (k % 8) + v.val) % 72 < 64
      omega
    · refine congrArg O (congrArg₂ ix2 (Fin.ext ?_) (Fin.ext ?_))
      · show 8 * ((72 * (k % 8) + v.val) % 72) + (72 * (k % 8) + v.val) / 72
          = 8 * ((64 * (k % 8) + 1 * v.val) % 64) + (64 * (k % 8) + 1 * v.val) / 64
        have h1 : (72 * (k % 8) + v.val) % 72 = v.val := by omega
        have h2 : (72 * (k % 8) + v.val) / 72 = k % 8 := by omega
        have h3 : (64 * (k % 8) + 1 * v.val) % 64 = v.val := by omega
        have h4 : (64 * (k % 8) + 1 * v.val) / 64 = k % 8 := by omega
        rw [h1, h2, h3, h4]
      · show 128 * (k / 8 % 8) + c.val = 128 * (k / 8 % 8) + 1 * c.val
        omega
  · have hr := r.isLt
    have hj := j.isLt
    have h1 : (8 * (j.val / 128) + r.val / 64) % 8 = r.val / 64 := by omega
    have h2 : (8 * (j.val / 128) + r.val / 64) / 8 % 8 = j.val / 128 := by omega
    refine ⟨outPiece rd (8 * (j.val / 128) + r.val / 64), mem _ _ (by omega), ?_⟩
    have h : (outPiece rd (8 * (j.val / 128) + r.val / 64)).1.emb
        (ix3 (0 : Fin 1) (⟨r.val % 64, by omega⟩ : Fin 64) (⟨j.val % 128, by omega⟩ : Fin 128) : S1x64x128.Idx) = ix3 0 r j := by
      funext i
      apply Fin.ext
      fin_cases i
      · show 0 + 1 * 0 = 0
        rfl
      · show 64 * ((8 * (j.val / 128) + r.val / 64) % 8) + 1 * (r.val % 64) = r.val
        rw [h1]; omega
      · show 128 * ((8 * (j.val / 128) + r.val / 64) / 8 % 8) + 1 * (j.val % 128) = j.val
        rw [h2]; omega
    rw [← h]
    exact LoadRect.idx_mem _ _

end Cert.KernelIdeal.Value
-- ==== Proof.Words.lean ====
module

public import Idealize.ShloMosaic.Lib.Pipeline.ValueKit
public import Idealize.ShloMosaic.Lib.WholeRead
public import proofs.«01_k».proof.Proof.Body

/-! The reads of one grid point, named once for the cases of the grid. -/

set_option maxRecDepth 16384
@[expose] public section

noncomputable section
open Idealize.ShloMosaic Idealize.SL.Sem
namespace Cert.KernelIdeal.Value
open Cert.KernelIdeal Cert.KernelIdeal.Gen Cert.Proof

/-- A read of a block of a buffer held at `X`. -/
theorem read_block {s : Shape} {e : EltTy} {M : Memref sig .tc .vmem s e} (h : M.IsWhole) (X : s.Idx → Elt Ideal e)
    (off size : Fin s.rank → ℕ) (inb : ∀ a, off a + size a ≤ s.size a) (x : (Rect.unit (s := s) off size inb).toLoadRect.shape.Idx)
    (y : s.Idx) (hy : ∀ a, off a + (x a).val = (y a).val) :
    View.readAt (Elt Ideal) M.view (Rect.unit (s := s) off size inb).toLoadRect (h.unread X) x = X y :=
  (Memref.IsWhole.readAt_unread h X _ x).trans (congrArg X (funext fun a => Fin.ext (by
    show off a + 1 * (x a).val = (y a).val
    rw [Nat.one_mul]
    exact hy a)))

/-- A read of a block of a buffer after the writes `L`. -/
theorem read_cov {s : Shape} {e : EltTy} (M : Memref sig .tc .vmem s e) (L : List (View.Piece (Elt Ideal) s e))
    (off size : Fin s.rank → ℕ) (inb : ∀ a, off a + size a ≤ s.size a) (x : (Rect.unit (s := s) off size inb).toLoadRect.shape.Idx)
    (y : s.Idx) (hy : ∀ a, off a + (x a).val = (y a).val) :
    M.view.readCov L (Rect.unit (s := s) off size inb).toLoadRect x = View.canon L y := by
  rw [View.readCov_eq_canon']
  exact congrArg (View.canon L) (funext fun a => Fin.ext (by
    show off a + 1 * (x a).val = (y a).val
    rw [Nat.one_mul]
    exact hy a))

/-- The buffers a point's second half reads, and what they hold. -/
structure Env where
  arg8 : Memref sig .tc .vmem S3x5632 .f32
  h8 : arg8.IsWhole
  arg9 : Memref sig .tc .vmem S1x5632 .f32
  h9 : arg9.IsWhole
  arg11 : Memref sig .tc .vmem S1x1024 .f32
  h11 : arg11.IsWhole
  arg12 : Memref sig .tc .vmem S1x1024 .f32
  h12 : arg12.IsWhole
  arg15 : Memref sig .tc .vmem S1024x5632 .bf16
  h15 : arg15.IsWhole
  arg16 : Memref sig .tc .vmem S2816x1024 .bf16
  h16 : arg16.IsWhole
  arg19 : Memref sig .tc .vmem S512x1024 .f32
  h19 : arg19.IsWhole
  arg20 : Memref sig .tc .vmem S8x512x128 .f32
  arg21 : Memref sig .tc .vmem S8x576x128 .f32
  arg22 : Memref sig .tc .vmem S512x2816 .bf16
  x5 : Vec Ideal S3x5632 .f32
  x6 : Vec Ideal S1x5632 .f32
  x7 : Vec Ideal S1x1024 .f32
  x8 : Vec Ideal S1x1024 .f32
  xs1 : Vec Ideal S1024x5632 .bf16
  xs2 : Vec Ideal S2816x1024 .bf16
  xs4 : Vec Ideal S512x1024 .f32

namespace Env
variable (E : Env)

theorem plInb (l : ℕ) : ∀ a, (![l % 8, 0, 0] : Fin 3 → ℕ) a + S1x512x128.size a ≤ S8x512x128.size a := by
  intro a; fin_cases a <;> simp [S1x512x128, S8x512x128]; omega
theorem wgInb (n : ℕ) : ∀ a, (![0, 256 * (n % 11)] : Fin 2 → ℕ) a + S1024x256.size a ≤ S1024x5632.size a := by
  intro a; fin_cases a <;> simp [S1024x256, S1024x5632]; omega
theorem wuInb (n : ℕ) : ∀ a, (![0, 2816 + 256 * (n % 11)] : Fin 2 → ℕ) a + S1024x256.size a ≤ S1024x5632.size a := by
  intro a; fin_cases a <;> simp [S1024x256, S1024x5632]; omega
theorem fgInb (j n : ℕ) : ∀ a, (![j % 3, 256 * (n % 11)] : Fin 2 → ℕ) a + S1x256.size a ≤ S3x5632.size a := by
  intro a; fin_cases a <;> simp [S1x256, S3x5632] <;> omega
theorem fuInb (j n : ℕ) : ∀ a, (![j % 3, 2816 + 256 * (n % 11)] : Fin 2 → ℕ) a + S1x256.size a ≤ S3x5632.size a := by
  intro a; fin_cases a <;> simp [S1x256, S3x5632] <;> omega
theorem bgInb (n : ℕ) : ∀ a, (![0, 256 * (n % 11)] : Fin 2 → ℕ) a + S1x256.size a ≤ S1x5632.size a := by
  intro a; fin_cases a <;> simp [S1x256, S1x5632]; omega
theorem buInb (n : ℕ) : ∀ a, (![0, 2816 + 256 * (n % 11)] : Fin 2 → ℕ) a + S1x256.size a ≤ S1x5632.size a := by
  intro a; fin_cases a <;> simp [S1x256, S1x5632]; omega
theorem d1Inb : ∀ a, (![0, 0] : Fin 2 → ℕ) a + S2048x1024.size a ≤ S2816x1024.size a := by
  intro a; fin_cases a <;> simp [S2048x1024, S2816x1024]
theorem d2Inb : ∀ a, (![2048, 0] : Fin 2 → ℕ) a + S768x1024.size a ≤ S2816x1024.size a := by
  intro a; fin_cases a <;> simp [S768x1024, S2816x1024]
theorem rowInb : ∀ a, (![0, 0] : Fin 2 → ℕ) a + S1x1024.size a ≤ S1x1024.size a := by
  intro a; fin_cases a <;> simp [S1x1024]
theorem xInb : ∀ a, (![0, 0] : Fin 2 → ℕ) a + S512x1024.size a ≤ S512x1024.size a := by
  intro a; fin_cases a <;> simp [S512x1024]
theorem a1Inb : ∀ a, (![0, 0] : Fin 2 → ℕ) a + S512x2048.size a ≤ S512x2816.size a := by
  intro a; fin_cases a <;> simp [S512x2048, S512x2816]
theorem a2Inb : ∀ a, (![0, 2048] : Fin 2 → ℕ) a + S512x768.size a ≤ S512x2816.size a := by
  intro a; fin_cases a <;> simp [S512x768, S512x2816]
theorem rdInb (n : ℕ) : ∀ a, (![n / 8 % 8, 72 * (n % 8), 0] : Fin 3 → ℕ) a + S1x64x128.size a ≤ S8x576x128.size a := by
  intro a; fin_cases a <;> simp [S1x64x128, S8x576x128] <;> omega

/-- The tile of the mixer's result the point before left. -/
def X : Vec Ideal S512x1024 .f32 :=
  View.readAt (Elt Ideal) E.arg19.view (Rect.unit (s := S512x1024) ![0, 0] S512x1024.size xInb).toLoadRect (E.h19.unread E.xs4)

theorem X_eq : E.X = E.xs4 := by
  funext y
  exact read_block E.h19 E.xs4 _ _ _ y y (fun a => by fin_cases a <;> exact Nat.zero_add _)

def R : Reads where
  pl l := E.arg20.view.readCov (permL E.X 512) (Rect.unit (s := S8x512x128) ![l % 8, 0, 0] S1x512x128.size (plInb l)).toLoadRect
  wg n := View.readAt (Elt Ideal) E.arg15.view (Rect.unit (s := S1024x5632) ![0, 256 * (n % 11)] S1024x256.size (wgInb n)).toLoadRect (E.h15.unread E.xs1)
  wu n := View.readAt (Elt Ideal) E.arg15.view (Rect.unit (s := S1024x5632) ![0, 2816 + 256 * (n % 11)] S1024x256.size (wuInb n)).toLoadRect (E.h15.unread E.xs1)
  fg j n := View.readAt (Elt Ideal) E.arg8.view (Rect.unit (s := S3x5632) ![j % 3, 256 * (n % 11)] S1x256.size (fgInb j n)).toLoadRect (E.h8.unread E.x5)
  fu j n := View.readAt (Elt Ideal) E.arg8.view (Rect.unit (s := S3x5632) ![j % 3, 2816 + 256 * (n % 11)] S1x256.size (fuInb j n)).toLoadRect (E.h8.unread E.x5)
  bg n := View.readAt (Elt Ideal) E.arg9.view (Rect.unit (s := S1x5632) ![0, 256 * (n % 11)] S1x256.size (bgInb n)).toLoadRect (E.h9.unread E.x6)
  bu n := View.readAt (Elt Ideal) E.arg9.view (Rect.unit (s := S1x5632) ![0, 2816 + 256 * (n % 11)] S1x256.size (buInb n)).toLoadRect (E.h9.unread E.x6)
  d1 := View.readAt (Elt Ideal) E.arg16.view (Rect.unit (s := S2816x1024) ![0, 0] S2048x1024.size d1Inb).toLoadRect (E.h16.unread E.xs2)
  d2 := View.readAt (Elt Ideal) E.arg16.view (Rect.unit (s := S2816x1024) ![2048, 0] S768x1024.size d2Inb).toLoadRect (E.h16.unread E.xs2)
  g2 := View.readAt (Elt Ideal) E.arg11.view (Rect.unit (s := S1x1024) ![0, 0] S1x1024.size rowInb).toLoadRect (E.h11.unread E.x7)
  b2 := View.readAt (Elt Ideal) E.arg12.view (Rect.unit (s := S1x1024) ![0, 0] S1x1024.size rowInb).toLoadRect (E.h12.unread E.x8)

theorem good : Good E.R E.xs4 E.xs1 E.xs2 E.x5 E.x6 E.x7 E.x8 where
  pl l p c := by
    refine (read_cov E.arg20 _ _ _ _ _ (ix3 l p c) ?_).trans ?_
    · have h8 : l.val % 8 = l.val := Nat.mod_eq_of_lt l.isLt
      intro a
      fin_cases a
      · show l.val % 8 + 0 = l.val
        omega
      · exact Nat.zero_add _
      · exact Nat.zero_add _
    · rw [perm_canon, X_eq]
      rfl
  wg n k c := read_block E.h15 _ _ _ _ _ _ (fun a => by
    have := n.isLt
    fin_cases a
    · exact Nat.zero_add _
    · show 256 * (n.val % 11) + c.val = 256 * n.val + c.val
      omega)
  wu n k c := read_block E.h15 _ _ _ _ _ _ (fun a => by
    have := n.isLt
    fin_cases a
    · exact Nat.zero_add _
    · show 2816 + 256 * (n.val % 11) + c.val = 2816 + (256 * n.val + c.val)
      omega)
  fg j n c := read_block E.h8 _ _ _ _ _ _ (fun a => by
    have := n.isLt
    have := j.isLt
    fin_cases a
    · show j.val % 3 + 0 = j.val
      omega
    · show 256 * (n.val % 11) + c.val = 256 * n.val + c.val
      omega)
  fu j n c := read_block E.h8 _ _ _ _ _ _ (fun a => by
    have := n.isLt
    have := j.isLt
    fin_cases a
    · show j.val % 3 + 0 = j.val
      omega
    · show 2816 + 256 * (n.val % 11) + c.val = 2816 + (256 * n.val + c.val)
      omega)
  bg n c := read_block E.h9 _ _ _ _ _ _ (fun a => by
    have := n.isLt
    fin_cases a
    · exact Nat.zero_add _
    · show 256 * (n.val % 11) + c.val = 256 * n.val + c.val
      omega)
  bu n c := read_block E.h9 _ _ _ _ _ _ (fun a => by
    have := n.isLt
    fin_cases a
    · exact Nat.zero_add _
    · show 2816 + 256 * (n.val % 11) + c.val = 2816 + (256 * n.val + c.val)
      omega)
  d1 k j := read_block E.h16 _ _ _ _ _ _ (fun a => by fin_cases a <;> exact Nat.zero_add _)
  d2 k j := read_block E.h16 _ _ _ _ _ _ (fun a => by
    fin_cases a
    · rfl
    · exact Nat.zero_add _)
  g2 := funext fun y => read_block E.h11 _ _ _ _ y y (fun a => by fin_cases a <;> exact Nat.zero_add _)
  b2 := funext fun y => read_block E.h12 _ _ _ _ y y (fun a => by fin_cases a <;> exact Nat.zero_add _)

variable (cg cu : ℕ → Vec Ideal S1x16x256 .f32)

def a1 : Vec Ideal S512x2048 .bf16 :=
  E.arg22.view.readCov (actL E.R cg cu 8) (Rect.unit (s := S512x2816) ![0, 0] S512x2048.size a1Inb).toLoadRect
def a2 : Vec Ideal S512x768 .bf16 :=
  E.arg22.view.readCov (actL E.R cg cu 11) (Rect.unit (s := S512x2816) ![0, 2048] S512x768.size a2Inb).toLoadRect
def res : FVec Ideal S512x1024 .f32 := resC E.R (E.a1 cg cu) (E.a2 cg cu)
def rd (n : ℕ) : Vec Ideal S1x64x128 .f32 :=
  E.arg21.view.readCov (natL (E.res cg cu) 512) (Rect.unit (s := S8x576x128) ![n / 8 % 8, 72 * (n % 8), 0] S1x64x128.size (rdInb n)).toLoadRect
/-- The stores of the output's tile. -/
def outs : List (View.Piece (Elt Ideal) S1x512x1024 .f32) := outL (E.rd cg cu) 64

theorem outs_at (KG KU : Fin 16 → Fin 2816 → EReal)
    (hcg : ∀ (n : Fin 11) (q : Fin 16) (c : Fin 256), cg n.val (ix3 0 q c) = KG q (col n c))
    (hcu : ∀ (n : Fin 11) (q : Fin 16) (c : Fin 256), cu n.val (ix3 0 q c) = KU q (col n c)) (r : Fin 512) (j : Fin 1024) :
    View.canon (E.outs cg cu) (ix3 0 r j) = resP E.xs4 E.xs1 E.xs2 E.x5 E.x6 E.x7 E.x8 KG KU (pr r) j := by
  refine (out_canon (E.res cg cu) (E.rd cg cu) (fun n v c hn => ?_) r j).trans ?_
  · exact read_cov E.arg21 _ _ _ _ _ _ (fun a => by
      fin_cases a
      · exact Nat.add_zero _
      · rfl
      · exact Nat.zero_add _)
  · refine Good.res E.good hcg hcu (fun p x => ?_) (fun p x => ?_) _ _
    · exact read_cov E.arg22 _ _ _ _ _ _ (fun a => by fin_cases a <;> exact Nat.zero_add _)
    · exact read_cov E.arg22 _ _ _ _ _ _ (fun a => by
        fin_cases a
        · exact Nat.zero_add _
        · rfl)

def ug (n : ℕ) : FVec Ideal S512x256 .f32 := upC (xpb E.R) (E.R.wg n)
def uu (n : ℕ) : FVec Ideal S512x256 .f32 := upC (xpb E.R) (E.R.wu n)

end Env

/-! ### The mixer's tile -/

theorem blockInb : ∀ a, (![0, 0, 0] : Fin 3 → ℕ) a + S1x512x1024.size a ≤ S1x512x1024.size a := by
  intro a; fin_cases a <;> simp [S1x512x1024]
theorem woInb : ∀ a, (![0, 0] : Fin 2 → ℕ) a + S1024x1024.size a ≤ S1024x1024.size a := by
  intro a; fin_cases a <;> simp [S1024x1024]

/-- The store of the mixer's tile. -/
def mixL (arg1 : Memref sig .tc .vmem S1x512x1024 .f32) (harg1 : arg1.IsWhole) (x0 : Vec Ideal S1x512x1024 .f32)
    (arg2 : Memref sig .tc .vmem S1x512x1024 .f32) (harg2 : arg2.IsWhole) (x1 : Vec Ideal S1x512x1024 .f32)
    (arg14 : Memref sig .tc .vmem S1024x1024 .bf16) (harg14 : arg14.IsWhole) (xs0 : Vec Ideal S1024x1024 .bf16)
    (arg4 : Memref sig .tc .vmem S1x1024 .f32) (harg4 : arg4.IsWhole) (x2 : Vec Ideal S1x1024 .f32)
    (arg5 : Memref sig .tc .vmem S1x1024 .f32) (harg5 : arg5.IsWhole) (x3 : Vec Ideal S1x1024 .f32)
    (arg6 : Memref sig .tc .vmem S1x1024 .f32) (harg6 : arg6.IsWhole) (x4 : Vec Ideal S1x1024 .f32) :
    List (View.Piece (Elt Ideal) S512x1024 .f32) :=
  [⟨Rect.unit ![0, 0] S512x1024.size Env.xInb, k0_pay759
    (k0_pay586 (View.readAt (Elt Ideal) arg1.view (Rect.unit (s := S1x512x1024) ![0, 0, 0] S1x512x1024.size blockInb).toLoadRect (harg1.unread x0)))
    (View.readAt (Elt Ideal) arg2.view (Rect.unit (s := S1x512x1024) ![0, 0, 0] S1x512x1024.size blockInb).toLoadRect (harg2.unread x1))
    (View.readAt (Elt Ideal) arg14.view (Rect.unit (s := S1024x1024) ![0, 0] S1024x1024.size woInb).toLoadRect (harg14.unread xs0))
    (View.readAt (Elt Ideal) arg4.view (Rect.unit (s := S1x1024) ![0, 0] S1x1024.size Env.rowInb).toLoadRect (harg4.unread x2))
    (View.readAt (Elt Ideal) arg5.view (Rect.unit (s := S1x1024) ![0, 0] S1x1024.size Env.rowInb).toLoadRect (harg5.unread x3))
    (View.readAt (Elt Ideal) arg6.view (Rect.unit (s := S1x1024) ![0, 0] S1x1024.size Env.rowInb).toLoadRect (harg6.unread x4))⟩]

/-- The mixer's row `r` at column `j`. -/
def mixV (x0 x1 : Vec Ideal S1x512x1024 .f32) (xs0 : Vec Ideal S1024x1024 .bf16) (x2 x3 x4 : Vec Ideal S1x1024 .f32)
    (r : Fin 512) (j : Fin 1024) : EReal :=
  ln (fun k => alphaN * x0 (ix3 0 r k) + ((∑ q, x1 (ix3 0 r q) * xs0 (ix2 q k)) + x2 (ix2 0 k))) (x3 (ix2 0 j)) (x4 (ix2 0 j)) j

theorem mixPay_at (x0 x1 : Vec Ideal S1x512x1024 .f32) (xs0 : Vec Ideal S1024x1024 .bf16) (x2 x3 x4 : Vec Ideal S1x1024 .f32)
    (r : Fin 512) (j : Fin 1024) : k0_pay759 (k0_pay586 x0) x1 xs0 x2 x3 x4 (ix2 r j) = mixV x0 x1 xs0 x2 x3 x4 r j := by
  pointwise [k0_pay759, k0_pay586]
  rfl

theorem mix_at (arg1 : Memref sig .tc .vmem S1x512x1024 .f32) (harg1 : arg1.IsWhole) (x0 : Vec Ideal S1x512x1024 .f32)
    (arg2 : Memref sig .tc .vmem S1x512x1024 .f32) (harg2 : arg2.IsWhole) (x1 : Vec Ideal S1x512x1024 .f32)
    (arg14 : Memref sig .tc .vmem S1024x1024 .bf16) (harg14 : arg14.IsWhole) (xs0 : Vec Ideal S1024x1024 .bf16)
    (arg4 : Memref sig .tc .vmem S1x1024 .f32) (harg4 : arg4.IsWhole) (x2 : Vec Ideal S1x1024 .f32)
    (arg5 : Memref sig .tc .vmem S1x1024 .f32) (harg5 : arg5.IsWhole) (x3 : Vec Ideal S1x1024 .f32)
    (arg6 : Memref sig .tc .vmem S1x1024 .f32) (harg6 : arg6.IsWhole) (x4 : Vec Ideal S1x1024 .f32) (r : Fin 512) (j : Fin 1024) :
    View.canon (mixL arg1 harg1 x0 arg2 harg2 x1 arg14 harg14 xs0 arg4 harg4 x2 arg5 harg5 x3 arg6 harg6 x4) (ix2 r j)
      = mixV x0 x1 xs0 x2 x3 x4 r j := by
  have hi : (Rect.unit (s := S512x1024) ![0, 0] S512x1024.size Env.xInb).emb (ix2 r j) = ix2 r j := by
    funext a
    apply Fin.ext
    fin_cases a
    · show 0 + 1 * r.val = r.val
      omega
    · show 0 + 1 * j.val = j.val
      omega
  have z3 : ∀ (x : S1x512x1024.Idx) (a : Fin 3), (![0, 0, 0] : Fin 3 → ℕ) a + (x a).val = (x a).val := by
    intro x a; fin_cases a <;> exact Nat.zero_add _
  have e0 := funext fun y => read_block harg1 x0 _ _ blockInb y y (z3 y)
  have e1 := funext fun y => read_block harg2 x1 _ _ blockInb y y (z3 y)
  have es := funext fun y => read_block harg14 xs0 _ _ woInb y y (fun a => by fin_cases a <;> exact Nat.zero_add _)
  have e2 := funext fun y => read_block harg4 x2 _ _ Env.rowInb y y (fun a => by fin_cases a <;> exact Nat.zero_add _)
  have e3 := funext fun y => read_block harg5 x3 _ _ Env.rowInb y y (fun a => by fin_cases a <;> exact Nat.zero_add _)
  have e4 := funext fun y => read_block harg6 x4 _ _ Env.rowInb y y (fun a => by fin_cases a <;> exact Nat.zero_add _)
  rw [← hi]
  refine (View.canon_cons_emb _ _ _ _).trans ?_
  rw [e0, e1, es, e2, e3, e4]
  exact mixPay_at x0 x1 xs0 x2 x3 x4 r j

/-! ### The rows left for the next point -/

theorem car_miss (up : ℕ → FVec Ideal S512x256 .f32) (L₀ : List (View.Piece (Elt Ideal) S11x16x256 .f32)) (k : ℕ) (n : Fin 11) (q : Fin 16)
    (c : Fin 256) (h : k ≤ n.val) : View.canon (carL up L₀ k) (ix3 n q c) = View.canon L₀ (ix3 n q c) := by
  induction k with
  | zero => rfl
  | succ k ih =>
    refine (View.canon_cons_of_not_mem _ _ ?_).trans (ih (by omega))
    intro hm
    obtain ⟨h1, h2⟩ := (Rect.mem_set_unit (inb := carInb k)).mp hm 0
    have h1 : k % 11 ≤ n.val := h1
    have h2 : n.val < k % 11 + 1 := h2
    have := n.isLt
    omega

theorem car_hit (up : ℕ → FVec Ideal S512x256 .f32) (L₀ : List (View.Piece (Elt Ideal) S11x16x256 .f32)) (k : ℕ) (hk : k ≤ 11) (n : Fin 11)
    (q : Fin 16) (c : Fin 256) (h : n.val < k) :
    View.canon (carL up L₀ k) (ix3 n q c) = up n.val (ix2 ⟨496 + q.val, by omega⟩ c) := by
  induction k with
  | zero => omega
  | succ k ih =>
    by_cases e : n.val = k
    · have hi : (Rect.unit (s := S11x16x256) ![k % 11, 0, 0] S1x16x256.size (carInb k)).emb (ix3 (0 : Fin 1) q c) = ix3 n q c := by
        funext a
        apply Fin.ext
        fin_cases a
        · show k % 11 + 1 * 0 = n.val
          omega
        · show 0 + 1 * q.val = q.val
          omega
        · show 0 + 1 * c.val = c.val
          omega
      rw [← hi]
      refine (View.canon_cons_emb _ _ _ _).trans ?_
      rw [e]
      exact carC_at (up k) q c
    · refine (View.canon_cons_of_not_mem _ _ ?_).trans (ih (by omega) (by omega))
      intro hm
      obtain ⟨h1, h2⟩ := (Rect.mem_set_unit (inb := carInb k)).mp hm 0
      have h1 : k % 11 ≤ n.val := h1
      have h2 : n.val < k % 11 + 1 := h2
      omega

theorem Env.ug_at (E : Env) (n : Fin 11) (p : Fin 512) (c : Fin 256) : E.ug n.val (ix2 p c) = upP E.xs4 E.xs1 p (colG (col n c)) :=
  Good.upg E.good n p c
theorem Env.uu_at (E : Env) (n : Fin 11) (p : Fin 512) (c : Fin 256) : E.uu n.val (ix2 p c) = upP E.xs4 E.xs1 p (colU (col n c)) :=
  Good.upu E.good n p c

end Cert.KernelIdeal.Value
-- ==== Proof.KA.lean ====
module

public import proofs.«01_k».proof.Proof.Gen.KernelIdeal.Frame.RunA
public import proofs.«01_k».proof.Proof.Words

/-! The first grid point: the weights it stages, and the mixer's first tile. -/

set_option maxRecDepth 16384
@[expose] public section

noncomputable section
open Idealize.ShloMosaic Idealize.SL.Sem
open Idealize.ShloMosaic.Tactic
namespace Cert.KernelIdeal.Value
open Cert.KernelIdeal Cert.KernelIdeal.Gen Cert.Proof

theorem srcAInb (k : ℕ) : ∀ a, (![0, 256 * (k % 4), 0] : Fin 3 → ℕ) a + S1x256x1024.size a ≤ S1x1024x1024.size a := by
  intro a; fin_cases a <;> simp [S1x256x1024, S1x1024x1024]; omega
theorem srcBInb (k : ℕ) : ∀ a, (![0, 256 * (k % 4), 1408 * (k / 4 % 4)] : Fin 3 → ℕ) a + S1x256x1408.size a ≤ S1x1024x5632.size a := by
  intro a; fin_cases a <;> simp [S1x256x1408, S1x1024x5632] <;> omega
theorem srcCInb (k : ℕ) : ∀ a, (![0, 256 * (k % 11), 0] : Fin 3 → ℕ) a + S1x256x1024.size a ≤ S1x2816x1024.size a := by
  intro a; fin_cases a <;> simp [S1x256x1024, S1x2816x1024]; omega
theorem stNInb (n : ℕ) : ∀ a, (![n % 4, 0, 0] : Fin 3 → ℕ) a + S1x256x1024.size a ≤ S4x256x1792.size a := by
  intro a; fin_cases a <;> simp [S1x256x1024, S4x256x1792]; omega
theorem stWInb (n : ℕ) : ∀ a, (![n % 4, 0, 0] : Fin 3 → ℕ) a + S1x256x1408.size a ≤ S4x256x1792.size a := by
  intro a; fin_cases a <;> simp [S1x256x1408, S4x256x1792]; omega
theorem w0Inb (n : ℕ) : ∀ a, (![256 * (n % 4), 0] : Fin 2 → ℕ) a + S256x1024.size a ≤ S1024x1024.size a := by
  intro a; fin_cases a <;> simp [S256x1024, S1024x1024]; omega
theorem w1Inb (n : ℕ) : ∀ a, (![256 * (n % 4), 1408 * (n / 4 % 4)] : Fin 2 → ℕ) a + S256x1408.size a ≤ S1024x5632.size a := by
  intro a; fin_cases a <;> simp [S256x1408, S1024x5632] <;> omega
theorem w2Inb (n : ℕ) : ∀ a, (![256 * (n % 11), 0] : Fin 2 → ℕ) a + S256x1024.size a ≤ S2816x1024.size a := by
  intro a; fin_cases a <;> simp [S256x1024, S2816x1024]; omega

section
variable {c : Dev nD} (fh0 : HbBuf0 (F := Ideal) c hbM0_0) (fh1 : HbBuf0 (F := Ideal) c hbM0_1) (fh2 : HbBuf0 (F := Ideal) c hbM0_2)

/-! ### The copies -/

def cpA (k : ℕ) : Vec Ideal S1x256x1024 .f32 :=
  ReadAs.same.apply (View.read (Elt Ideal) ((Memref.whole main_arg2).slice (Rect.unit (s := S1x1024x1024) ![0, 256 * (k % 4), 0]
    S1x256x1024.size (srcAInb k)) (fun _ => rfl)).view fh0)
def cpB (k : ℕ) : Vec Ideal S1x256x1408 .f32 :=
  ReadAs.same.apply (View.read (Elt Ideal) ((Memref.whole main_arg6).slice (Rect.unit (s := S1x1024x5632)
    ![0, 256 * (k % 4), 1408 * (k / 4 % 4)] S1x256x1408.size (srcBInb k)) (fun _ => rfl)).view fh1)
def cpC (k : ℕ) : Vec Ideal S1x256x1024 .f32 :=
  ReadAs.same.apply (View.read (Elt Ideal) ((Memref.whole main_arg9).slice (Rect.unit (s := S1x2816x1024) ![0, 256 * (k % 11), 0]
    S1x256x1024.size (srcCInb k)) (fun _ => rfl)).view fh2)

def hb0 : S1x1024x1024.Idx → EReal := fh0
def hb1 : S1x1024x5632.Idx → EReal := fh1
def hb2 : S1x2816x1024.Idx → EReal := fh2

theorem cpA_at (k : Fin 4) (q : Fin 256) (j : Fin 1024) :
    cpA fh0 k.val (ix3 0 q j) = hb0 fh0 (ix3 0 ⟨256 * k.val + q.val, by omega⟩ j) := by
  have hk := k.isLt
  refine congrArg (hb0 fh0) (funext fun a => Fin.ext ?_)
  fin_cases a
  · show 0 + 1 * 0 = 0
    rfl
  · show 256 * (k.val % 4) + 1 * q.val = 256 * k.val + q.val
    omega
  · show 0 + 1 * j.val = j.val
    omega

theorem cpB_at (k : Fin 16) (q : Fin 256) (j : Fin 1408) :
    cpB fh1 k.val (ix3 0 q j) = hb1 fh1 (ix3 0 ⟨256 * (k.val % 4) + q.val, by omega⟩ ⟨1408 * (k.val / 4) + j.val, by omega⟩) := by
  have hk := k.isLt
  refine congrArg (hb1 fh1) (funext fun a => Fin.ext ?_)
  fin_cases a
  · show 0 + 1 * 0 = 0
    rfl
  · show 256 * (k.val % 4) + 1 * q.val = 256 * (k.val % 4) + q.val
    omega
  · show 1408 * (k.val / 4 % 4) + 1 * j.val = 1408 * (k.val / 4) + j.val
    omega

theorem cpC_at (k : Fin 11) (q : Fin 256) (j : Fin 1024) :
    cpC fh2 k.val (ix3 0 q j) = hb2 fh2 (ix3 0 ⟨256 * k.val + q.val, by omega⟩ j) := by
  have hk := k.isLt
  refine congrArg (hb2 fh2) (funext fun a => Fin.ext ?_)
  fin_cases a
  · show 0 + 1 * 0 = 0
    rfl
  · show 256 * (k.val % 11) + 1 * q.val = 256 * k.val + q.val
    omega
  · show 0 + 1 * j.val = j.val
    omega

/-! ### The ring they land in -/

def pcN (n : ℕ) (w : Vec Ideal S1x256x1024 .f32) : View.Piece (Elt Ideal) S4x256x1792 .f32 :=
  ⟨Rect.unit ![n % 4, 0, 0] S1x256x1024.size (stNInb n), w⟩
def pcW (n : ℕ) (w : Vec Ideal S1x256x1408 .f32) : View.Piece (Elt Ideal) S4x256x1792 .f32 :=
  ⟨Rect.unit ![n % 4, 0, 0] S1x256x1408.size (stWInb n), w⟩

def stA : ℕ → List (View.Piece (Elt Ideal) S4x256x1792 .f32)
  | 0 => []
  | n + 1 => pcN n (cpA fh0 n) :: stA n
def stB : ℕ → List (View.Piece (Elt Ideal) S4x256x1792 .f32)
  | 0 => stA fh0 4
  | n + 1 => pcW n (cpB fh1 n) :: stB n
def stC : ℕ → List (View.Piece (Elt Ideal) S4x256x1792 .f32)
  | 0 => stB fh0 fh1 16
  | n + 1 => pcN n (cpC fh2 n) :: stC n

theorem ringN_miss (n : ℕ) (w : Vec Ideal S1x256x1024 .f32) (L : List (View.Piece (Elt Ideal) S4x256x1792 .f32)) (s : Fin 4) (q : Fin 256)
    (j : Fin 1792) (h : n % 4 ≠ s.val) :
    View.canon (pcN n w :: L) (ix3 s q j) = View.canon L (ix3 s q j) := by
  refine View.canon_cons_of_not_mem _ _ fun hm => ?_
  obtain ⟨h1, h2⟩ := (Rect.mem_set_unit (inb := stNInb n)).mp hm 0
  have h1 : n % 4 ≤ s.val := h1
  have h2 : s.val < n % 4 + 1 := h2
  omega

theorem ringW_miss (n : ℕ) (w : Vec Ideal S1x256x1408 .f32) (L : List (View.Piece (Elt Ideal) S4x256x1792 .f32)) (s : Fin 4) (q : Fin 256)
    (j : Fin 1792) (h : n % 4 ≠ s.val) :
    View.canon (pcW n w :: L) (ix3 s q j) = View.canon L (ix3 s q j) := by
  refine View.canon_cons_of_not_mem _ _ fun hm => ?_
  obtain ⟨h1, h2⟩ := (Rect.mem_set_unit (inb := stWInb n)).mp hm 0
  have h1 : n % 4 ≤ s.val := h1
  have h2 : s.val < n % 4 + 1 := h2
  omega

theorem ringN_hit (n : ℕ) (w : Vec Ideal S1x256x1024 .f32) (L : List (View.Piece (Elt Ideal) S4x256x1792 .f32)) (q : Fin 256) (j : Fin 1024) :
    View.canon (pcN n w :: L) (ix3 (⟨n % 4, by omega⟩ : Fin 4) q (⟨j.val, by omega⟩ : Fin 1792))
      = w (ix3 0 q j) := by
  have hi : (Rect.unit (s := S4x256x1792) ![n % 4, 0, 0] S1x256x1024.size (stNInb n)).emb (ix3 (0 : Fin 1) q j)
      = ix3 (⟨n % 4, by omega⟩ : Fin 4) q (⟨j.val, by omega⟩ : Fin 1792) := by
    funext a
    apply Fin.ext
    fin_cases a
    · show n % 4 + 1 * 0 = n % 4
      omega
    · show 0 + 1 * q.val = q.val
      omega
    · show 0 + 1 * j.val = j.val
      omega
  rw [← hi]
  exact View.canon_cons_emb _ _ _ _

theorem ringW_hit (n : ℕ) (w : Vec Ideal S1x256x1408 .f32) (L : List (View.Piece (Elt Ideal) S4x256x1792 .f32)) (q : Fin 256) (j : Fin 1408) :
    View.canon (pcW n w :: L) (ix3 (⟨n % 4, by omega⟩ : Fin 4) q (⟨j.val, by omega⟩ : Fin 1792))
      = w (ix3 0 q j) := by
  have hi : (Rect.unit (s := S4x256x1792) ![n % 4, 0, 0] S1x256x1408.size (stWInb n)).emb (ix3 (0 : Fin 1) q j)
      = ix3 (⟨n % 4, by omega⟩ : Fin 4) q (⟨j.val, by omega⟩ : Fin 1792) := by
    funext a
    apply Fin.ext
    fin_cases a
    · show n % 4 + 1 * 0 = n % 4
      omega
    · show 0 + 1 * q.val = q.val
      omega
    · show 0 + 1 * j.val = j.val
      omega
  rw [← hi]
  exact View.canon_cons_emb _ _ _ _

theorem stA_at (n k : ℕ) (hk : k < n) (hn : n ≤ k + 4) (q : Fin 256) (j : Fin 1024) :
    View.canon (stA fh0 n) (ix3 (⟨k % 4, by omega⟩ : Fin 4) q (⟨j.val, by omega⟩ : Fin 1792)) = cpA fh0 k (ix3 0 q j) := by
  induction n with
  | zero => omega
  | succ n ih =>
    by_cases e : k = n
    · subst e
      exact ringN_hit k _ _ q j
    · refine (ringN_miss n _ _ _ q _ ?_).trans (ih (by omega) (by omega))
      show n % 4 ≠ k % 4
      omega

theorem stB_old (n k : ℕ) (hk : k < 4) (hn : n ≤ k) (q : Fin 256) (j : Fin 1792) :
    View.canon (stB fh0 fh1 n) (ix3 (⟨k % 4, by omega⟩ : Fin 4) q j) = View.canon (stA fh0 4) (ix3 (⟨k % 4, by omega⟩ : Fin 4) q j) := by
  induction n with
  | zero => rfl
  | succ n ih =>
    refine (ringW_miss n _ _ _ q _ ?_).trans (ih (by omega))
    show n % 4 ≠ k % 4
    omega

theorem stB_at (n k : ℕ) (hk : k < n) (hn : n ≤ k + 4) (q : Fin 256) (j : Fin 1408) :
    View.canon (stB fh0 fh1 n) (ix3 (⟨k % 4, by omega⟩ : Fin 4) q (⟨j.val, by omega⟩ : Fin 1792)) = cpB fh1 k (ix3 0 q j) := by
  induction n with
  | zero => omega
  | succ n ih =>
    by_cases e : k = n
    · subst e
      exact ringW_hit k _ _ q j
    · refine (ringW_miss n _ _ _ q _ ?_).trans (ih (by omega) (by omega))
      show n % 4 ≠ k % 4
      omega

theorem stC_old (n k : ℕ) (hk : 12 ≤ k) (hk' : k < 16) (hn : n ≤ k - 12) (q : Fin 256) (j : Fin 1792) :
    View.canon (stC fh0 fh1 fh2 n) (ix3 (⟨k % 4, by omega⟩ : Fin 4) q j) = View.canon (stB fh0 fh1 16) (ix3 (⟨k % 4, by omega⟩ : Fin 4) q j) := by
  induction n with
  | zero => rfl
  | succ n ih =>
    refine (ringN_miss n _ _ _ q _ ?_).trans (ih (by omega))
    show n % 4 ≠ k % 4
    omega

theorem stC_at (n k : ℕ) (hk : k < n) (hn : n ≤ k + 4) (q : Fin 256) (j : Fin 1024) :
    View.canon (stC fh0 fh1 fh2 n) (ix3 (⟨k % 4, by omega⟩ : Fin 4) q (⟨j.val, by omega⟩ : Fin 1792)) = cpC fh2 k (ix3 0 q j) := by
  induction n with
  | zero => omega
  | succ n ih =>
    by_cases e : k = n
    · subst e
      exact ringN_hit k _ _ q j
    · refine (ringN_miss n _ _ _ q _ ?_).trans (ih (by omega) (by omega))
      show n % 4 ≠ k % 4
      omega

/-! ### The weights written from it -/

variable (arg17 : Memref sig .tc .vmem S4x256x1792 .f32)

def rdA (k : ℕ) : Vec Ideal S1x256x1024 .f32 :=
  arg17.view.readCov (stB fh0 fh1 k) (Rect.unit (s := S4x256x1792) ![k % 4, 0, 0] S1x256x1024.size (stNInb k)).toLoadRect
def rdB (k : ℕ) : Vec Ideal S1x256x1408 .f32 :=
  arg17.view.readCov (if k ≤ 12 then stB fh0 fh1 (k + 4) else stC fh0 fh1 fh2 (k - 12))
    (Rect.unit (s := S4x256x1792) ![k % 4, 0, 0] S1x256x1408.size (stWInb k)).toLoadRect
def rdC (k : ℕ) : Vec Ideal S1x256x1024 .f32 :=
  arg17.view.readCov (stC fh0 fh1 fh2 (if k ≤ 7 then k + 4 else 11))
    (Rect.unit (s := S4x256x1792) ![k % 4, 0, 0] S1x256x1024.size (stNInb k)).toLoadRect

def w0P (n : ℕ) : View.Piece (Elt Ideal) S1024x1024 .bf16 :=
  ⟨Rect.unit ![256 * (n % 4), 0] S256x1024.size (w0Inb n), k0_pay4 (F := Ideal) (rdA fh0 fh1 arg17 n)⟩
def w1P (n : ℕ) : View.Piece (Elt Ideal) S1024x5632 .bf16 :=
  ⟨Rect.unit ![256 * (n % 4), 1408 * (n / 4 % 4)] S256x1408.size (w1Inb n), k0_pay8 (F := Ideal) (rdB fh0 fh1 fh2 arg17 n)⟩
def w2P (n : ℕ) : View.Piece (Elt Ideal) S2816x1024 .bf16 :=
  ⟨Rect.unit ![256 * (n % 11), 0] S256x1024.size (w2Inb n), k0_pay4 (F := Ideal) (rdC fh0 fh1 fh2 arg17 n)⟩

def wL0 : ℕ → List (View.Piece (Elt Ideal) S1024x1024 .bf16)
  | 0 => []
  | n + 1 => w0P fh0 fh1 arg17 n :: wL0 n
def wL1 : ℕ → List (View.Piece (Elt Ideal) S1024x5632 .bf16)
  | 0 => []
  | n + 1 => w1P fh0 fh1 fh2 arg17 n :: wL1 n
def wL2 : ℕ → List (View.Piece (Elt Ideal) S2816x1024 .bf16)
  | 0 => []
  | n + 1 => w2P fh0 fh1 fh2 arg17 n :: wL2 n

theorem payN_at (v : Vec Ideal S1x256x1024 .f32) (q : Fin 256) (j : Fin 1024) : k0_pay4 (F := Ideal) v (ix2 q j) = v (ix3 0 q j) := by
  pointwise [k0_pay4]

theorem payW_at (v : Vec Ideal S1x256x1408 .f32) (q : Fin 256) (j : Fin 1408) : k0_pay8 (F := Ideal) v (ix2 q j) = v (ix3 0 q j) := by
  pointwise [k0_pay8]

theorem rdA_at (k : Fin 4) (q : Fin 256) (j : Fin 1024) :
    rdA fh0 fh1 arg17 k.val (ix3 0 q j) = hb0 fh0 (ix3 0 ⟨256 * k.val + q.val, by omega⟩ j) := by
  refine (read_cov arg17 _ _ _ _ _ (ix3 (⟨k.val % 4, by omega⟩ : Fin 4) q (⟨j.val, by omega⟩ : Fin 1792)) (fun a => ?_)).trans ?_
  · fin_cases a
    · exact Nat.add_zero _
    · exact Nat.zero_add _
    · exact Nat.zero_add _
  · exact (stB_old fh0 fh1 k.val k.val k.isLt le_rfl q _).trans
      ((stA_at fh0 4 k.val k.isLt (by omega) q j).trans (cpA_at fh0 k q j))

theorem rdB_at (k : Fin 16) (q : Fin 256) (j : Fin 1408) :
    rdB fh0 fh1 fh2 arg17 k.val (ix3 0 q j)
      = hb1 fh1 (ix3 0 ⟨256 * (k.val % 4) + q.val, by omega⟩ ⟨1408 * (k.val / 4) + j.val, by omega⟩) := by
  refine (read_cov arg17 _ _ _ _ _ (ix3 (⟨k.val % 4, by omega⟩ : Fin 4) q (⟨j.val, by omega⟩ : Fin 1792)) (fun a => ?_)).trans ?_
  · fin_cases a
    · exact Nat.add_zero _
    · exact Nat.zero_add _
    · exact Nat.zero_add _
  · by_cases h : k.val ≤ 12
    · rw [if_pos h]
      exact (stB_at fh0 fh1 (k.val + 4) k.val (by omega) le_rfl q j).trans (cpB_at fh1 k q j)
    · rw [if_neg h]
      exact (stC_old fh0 fh1 fh2 (k.val - 12) k.val (by omega) k.isLt le_rfl q _).trans
        ((stB_at fh0 fh1 16 k.val k.isLt (by omega) q j).trans (cpB_at fh1 k q j))

theorem rdC_at (k : Fin 11) (q : Fin 256) (j : Fin 1024) :
    rdC fh0 fh1 fh2 arg17 k.val (ix3 0 q j) = hb2 fh2 (ix3 0 ⟨256 * k.val + q.val, by omega⟩ j) := by
  refine (read_cov arg17 _ _ _ _ _ (ix3 (⟨k.val % 4, by omega⟩ : Fin 4) q (⟨j.val, by omega⟩ : Fin 1792)) (fun a => ?_)).trans ?_
  · fin_cases a
    · exact Nat.add_zero _
    · exact Nat.zero_add _
    · exact Nat.zero_add _
  · have hk := k.isLt
    refine (stC_at fh0 fh1 fh2 _ k.val ?_ ?_ q j).trans (cpC_at fh2 k q j)
    · split_ifs <;> omega
    · split_ifs <;> omega

def G0 : S1024x1024.Idx → Elt Ideal .bf16 := fun y => hb0 fh0 (ix3 0 (y 0) (y 1))
def G1 : S1024x5632.Idx → Elt Ideal .bf16 := fun y => hb1 fh1 (ix3 0 (y 0) (y 1))
def G2 : S2816x1024.Idx → Elt Ideal .bf16 := fun y => hb2 fh2 (ix3 0 (y 0) (y 1))

theorem of_wL0 (m : ℕ) (pc) (h : pc ∈ wL0 fh0 fh1 arg17 m) : ∃ k < m, pc = w0P fh0 fh1 arg17 k := by
  induction m with
  | zero => simp [wL0] at h
  | succ m ih =>
    rcases List.mem_cons.mp h with h | h
    · exact ⟨m, by omega, h⟩
    · obtain ⟨k, hk, e⟩ := ih h; exact ⟨k, by omega, e⟩

theorem of_wL1 (m : ℕ) (pc) (h : pc ∈ wL1 fh0 fh1 fh2 arg17 m) : ∃ k < m, pc = w1P fh0 fh1 fh2 arg17 k := by
  induction m with
  | zero => simp [wL1] at h
  | succ m ih =>
    rcases List.mem_cons.mp h with h | h
    · exact ⟨m, by omega, h⟩
    · obtain ⟨k, hk, e⟩ := ih h; exact ⟨k, by omega, e⟩

theorem of_wL2 (m : ℕ) (pc) (h : pc ∈ wL2 fh0 fh1 fh2 arg17 m) : ∃ k < m, pc = w2P fh0 fh1 fh2 arg17 k := by
  induction m with
  | zero => simp [wL2] at h
  | succ m ih =>
    rcases List.mem_cons.mp h with h | h
    · exact ⟨m, by omega, h⟩
    · obtain ⟨k, hk, e⟩ := ih h; exact ⟨k, by omega, e⟩

theorem mem_wL0 (m k : ℕ) (h : k < m) : w0P fh0 fh1 arg17 k ∈ wL0 fh0 fh1 arg17 m := by
  induction m with
  | zero => omega
  | succ m ih =>
    rcases Nat.lt_succ_iff_lt_or_eq.mp h with h | rfl
    · exact List.mem_cons_of_mem _ (ih h)
    · exact List.mem_cons_self

theorem cov_wL0 (y : S1024x1024.Idx) : ∃ pc ∈ wL0 fh0 fh1 arg17 4, y ∈ pc.1.set := by
  obtain ⟨r, j, rfl⟩ : ∃ (r : Fin 1024) (j : Fin 1024), y = (ix2 r j : S1024x1024.Idx) :=
    ⟨y 0, y 1, by funext i; fin_cases i <;> rfl⟩
  have hr := r.isLt
  have hj := j.isLt
  generalize hk : r.val / 256 = k
  have hk' : k < 4 := by omega
  refine ⟨_, mem_wL0 fh0 fh1 arg17 4 k hk', ?_⟩
  refine (Rect.mem_set_unit (inb := w0Inb k)).mpr fun a => ?_
  fin_cases a
  · show 256 * (k % 4) ≤ r.val ∧ r.val < 256 * (k % 4) + 256
    omega
  · show 0 ≤ j.val ∧ j.val < 0 + 1024
    omega

theorem mem_wL1 (m k : ℕ) (h : k < m) : w1P fh0 fh1 fh2 arg17 k ∈ wL1 fh0 fh1 fh2 arg17 m := by
  induction m with
  | zero => omega
  | succ m ih =>
    rcases Nat.lt_succ_iff_lt_or_eq.mp h with h | rfl
    · exact List.mem_cons_of_mem _ (ih h)
    · exact List.mem_cons_self

theorem cov_wL1 (y : S1024x5632.Idx) : ∃ pc ∈ wL1 fh0 fh1 fh2 arg17 16, y ∈ pc.1.set := by
  obtain ⟨r, j, rfl⟩ : ∃ (r : Fin 1024) (j : Fin 5632), y = (ix2 r j : S1024x5632.Idx) :=
    ⟨y 0, y 1, by funext i; fin_cases i <;> rfl⟩
  have hr := r.isLt
  have hj := j.isLt
  generalize hk : 4 * (j.val / 1408) + r.val / 256 = k
  have hk' : k < 16 := by omega
  refine ⟨_, mem_wL1 fh0 fh1 fh2 arg17 16 k hk', ?_⟩
  refine (Rect.mem_set_unit (inb := w1Inb k)).mpr fun a => ?_
  fin_cases a
  · show 256 * (k % 4) ≤ r.val ∧ r.val < 256 * (k % 4) + 256
    omega
  · show 1408 * (k / 4 % 4) ≤ j.val ∧ j.val < 1408 * (k / 4 % 4) + 1408
    omega

theorem mem_wL2 (m k : ℕ) (h : k < m) : w2P fh0 fh1 fh2 arg17 k ∈ wL2 fh0 fh1 fh2 arg17 m := by
  induction m with
  | zero => omega
  | succ m ih =>
    rcases Nat.lt_succ_iff_lt_or_eq.mp h with h | rfl
    · exact List.mem_cons_of_mem _ (ih h)
    · exact List.mem_cons_self

theorem cov_wL2 (y : S2816x1024.Idx) : ∃ pc ∈ wL2 fh0 fh1 fh2 arg17 11, y ∈ pc.1.set := by
  obtain ⟨r, j, rfl⟩ : ∃ (r : Fin 2816) (j : Fin 1024), y = (ix2 r j : S2816x1024.Idx) :=
    ⟨y 0, y 1, by funext i; fin_cases i <;> rfl⟩
  have hr := r.isLt
  have hj := j.isLt
  generalize hk : r.val / 256 = k
  have hk' : k < 11 := by omega
  refine ⟨_, mem_wL2 fh0 fh1 fh2 arg17 11 k hk', ?_⟩
  refine (Rect.mem_set_unit (inb := w2Inb k)).mpr fun a => ?_
  fin_cases a
  · show 256 * (k % 11) ≤ r.val ∧ r.val < 256 * (k % 11) + 256
    omega
  · show 0 ≤ j.val ∧ j.val < 0 + 1024
    omega

theorem w0P_at (k : ℕ) (hk : k < 4) (a : Fin 256) (b : Fin 1024) :
    (w0P fh0 fh1 arg17 k).2 (ix2 a b : S256x1024.Idx) = G0 fh0 ((w0P fh0 fh1 arg17 k).1.emb (ix2 a b : S256x1024.Idx)) := by
  have h := rdA_at fh0 fh1 arg17 ⟨k, hk⟩ a b
  dsimp only at h
  show k0_pay4 (F := Ideal) (rdA fh0 fh1 arg17 k) (ix2 a b) = _
  rw [payN_at, h]
  show hb0 fh0 _ = hb0 fh0 (ix3 0 ((w0P fh0 fh1 arg17 k).1.emb (ix2 a b : S256x1024.Idx) 0) ((w0P fh0 fh1 arg17 k).1.emb (ix2 a b : S256x1024.Idx) 1))
  congr 2
  · apply Fin.ext
    show 256 * k + a.val = 256 * (k % 4) + 1 * a.val
    omega
  · apply Fin.ext
    show b.val = 0 + 1 * b.val
    omega

theorem wL0_canon : View.canon (wL0 fh0 fh1 arg17 4) = G0 fh0 := by
  have hL : ∀ p ∈ wL0 fh0 fh1 arg17 4, ∀ x : p.1.shape.Idx, p.2 x = G0 fh0 (p.1.emb x) := fun p hp x => by
    obtain ⟨k, hk, rfl⟩ := of_wL0 fh0 fh1 arg17 _ _ hp
    obtain ⟨a, b, rfl⟩ : ∃ (a : Fin 256) (b : Fin 1024), x = (ix2 a b : S256x1024.Idx) :=
      ⟨x 0, x 1, by funext i; fin_cases i <;> rfl⟩
    exact w0P_at fh0 fh1 arg17 k hk a b
  funext y
  exact View.canon_apply_of_pieces (G0 fh0) _ hL y (cov_wL0 fh0 fh1 arg17 y)

theorem w1P_at (k : ℕ) (hk : k < 16) (a : Fin 256) (b : Fin 1408) :
    (w1P fh0 fh1 fh2 arg17 k).2 (ix2 a b : S256x1408.Idx) = G1 fh1 ((w1P fh0 fh1 fh2 arg17 k).1.emb (ix2 a b : S256x1408.Idx)) := by
  have h := rdB_at fh0 fh1 fh2 arg17 ⟨k, hk⟩ a b
  dsimp only at h
  show k0_pay8 (F := Ideal) (rdB fh0 fh1 fh2 arg17 k) (ix2 a b) = _
  rw [payW_at, h]
  show hb1 fh1 _ = hb1 fh1 (ix3 0 ((w1P fh0 fh1 fh2 arg17 k).1.emb (ix2 a b : S256x1408.Idx) 0) ((w1P fh0 fh1 fh2 arg17 k).1.emb (ix2 a b : S256x1408.Idx) 1))
  congr 2
  · apply Fin.ext
    show 256 * (k % 4) + a.val = 256 * (k % 4) + 1 * a.val
    omega
  · apply Fin.ext
    show 1408 * (k / 4) + b.val = 1408 * (k / 4 % 4) + 1 * b.val
    omega

theorem wL1_canon : View.canon (wL1 fh0 fh1 fh2 arg17 16) = G1 fh1 := by
  have hL : ∀ p ∈ wL1 fh0 fh1 fh2 arg17 16, ∀ x : p.1.shape.Idx, p.2 x = G1 fh1 (p.1.emb x) := fun p hp x => by
    obtain ⟨k, hk, rfl⟩ := of_wL1 fh0 fh1 fh2 arg17 _ _ hp
    obtain ⟨a, b, rfl⟩ : ∃ (a : Fin 256) (b : Fin 1408), x = (ix2 a b : S256x1408.Idx) :=
      ⟨x 0, x 1, by funext i; fin_cases i <;> rfl⟩
    exact w1P_at fh0 fh1 fh2 arg17 k hk a b
  funext y
  exact View.canon_apply_of_pieces (G1 fh1) _ hL y (cov_wL1 fh0 fh1 fh2 arg17 y)

theorem w2P_at (k : ℕ) (hk : k < 11) (a : Fin 256) (b : Fin 1024) :
    (w2P fh0 fh1 fh2 arg17 k).2 (ix2 a b : S256x1024.Idx) = G2 fh2 ((w2P fh0 fh1 fh2 arg17 k).1.emb (ix2 a b : S256x1024.Idx)) := by
  have h := rdC_at fh0 fh1 fh2 arg17 ⟨k, hk⟩ a b
  dsimp only at h
  show k0_pay4 (F := Ideal) (rdC fh0 fh1 fh2 arg17 k) (ix2 a b) = _
  rw [payN_at, h]
  show hb2 fh2 _ = hb2 fh2 (ix3 0 ((w2P fh0 fh1 fh2 arg17 k).1.emb (ix2 a b : S256x1024.Idx) 0) ((w2P fh0 fh1 fh2 arg17 k).1.emb (ix2 a b : S256x1024.Idx) 1))
  congr 2
  · apply Fin.ext
    show 256 * k + a.val = 256 * (k % 11) + 1 * a.val
    omega
  · apply Fin.ext
    show b.val = 0 + 1 * b.val
    omega

theorem wL2_canon : View.canon (wL2 fh0 fh1 fh2 arg17 11) = G2 fh2 := by
  have hL : ∀ p ∈ wL2 fh0 fh1 fh2 arg17 11, ∀ x : p.1.shape.Idx, p.2 x = G2 fh2 (p.1.emb x) := fun p hp x => by
    obtain ⟨k, hk, rfl⟩ := of_wL2 fh0 fh1 fh2 arg17 _ _ hp
    obtain ⟨a, b, rfl⟩ : ∃ (a : Fin 256) (b : Fin 1024), x = (ix2 a b : S256x1024.Idx) :=
      ⟨x 0, x 1, by funext i; fin_cases i <;> rfl⟩
    exact w2P_at fh0 fh1 fh2 arg17 k hk a b
  funext y
  exact View.canon_apply_of_pieces (G2 fh2) _ hL y (cov_wL2 fh0 fh1 fh2 arg17 y)

/-- The store of the mixer's first tile, over the zeros before it. -/
def mixLA (arg1 : Memref sig .tc .vmem S1x512x1024 .f32) (harg1 : arg1.IsWhole) (x0 : Vec Ideal S1x512x1024 .f32)
    (arg2 : Memref sig .tc .vmem S1x512x1024 .f32) (harg2 : arg2.IsWhole) (x1 : Vec Ideal S1x512x1024 .f32)
    (arg14 : Memref sig .tc .vmem S1024x1024 .bf16)
    (arg4 : Memref sig .tc .vmem S1x1024 .f32) (harg4 : arg4.IsWhole) (x2 : Vec Ideal S1x1024 .f32)
    (arg5 : Memref sig .tc .vmem S1x1024 .f32) (harg5 : arg5.IsWhole) (x3 : Vec Ideal S1x1024 .f32)
    (arg6 : Memref sig .tc .vmem S1x1024 .f32) (harg6 : arg6.IsWhole) (x4 : Vec Ideal S1x1024 .f32) :
    List (View.Piece (Elt Ideal) S512x1024 .f32) :=
  [⟨Rect.unit ![0, 0] S512x1024.size Env.xInb, k0_pay759
    (k0_pay586 (View.readAt (Elt Ideal) arg1.view (Rect.unit (s := S1x512x1024) ![0, 0, 0] S1x512x1024.size blockInb).toLoadRect (harg1.unread x0)))
    (View.readAt (Elt Ideal) arg2.view (Rect.unit (s := S1x512x1024) ![0, 0, 0] S1x512x1024.size blockInb).toLoadRect (harg2.unread x1))
    (arg14.view.readCov (wL0 fh0 fh1 arg17 4) (Rect.unit (s := S1024x1024) ![0, 0] S1024x1024.size woInb).toLoadRect)
    (View.readAt (Elt Ideal) arg4.view (Rect.unit (s := S1x1024) ![0, 0] S1x1024.size Env.rowInb).toLoadRect (harg4.unread x2))
    (View.readAt (Elt Ideal) arg5.view (Rect.unit (s := S1x1024) ![0, 0] S1x1024.size Env.rowInb).toLoadRect (harg5.unread x3))
    (View.readAt (Elt Ideal) arg6.view (Rect.unit (s := S1x1024) ![0, 0] S1x1024.size Env.rowInb).toLoadRect (harg6.unread x4))⟩,
    ⟨Rect.unit ![0, 0] S512x1024.size Env.xInb, k0_pay3 (F := Ideal)⟩]

theorem mixA_at (arg1 : Memref sig .tc .vmem S1x512x1024 .f32) (harg1 : arg1.IsWhole) (x0 : Vec Ideal S1x512x1024 .f32)
    (arg2 : Memref sig .tc .vmem S1x512x1024 .f32) (harg2 : arg2.IsWhole) (x1 : Vec Ideal S1x512x1024 .f32)
    (arg14 : Memref sig .tc .vmem S1024x1024 .bf16)
    (arg4 : Memref sig .tc .vmem S1x1024 .f32) (harg4 : arg4.IsWhole) (x2 : Vec Ideal S1x1024 .f32)
    (arg5 : Memref sig .tc .vmem S1x1024 .f32) (harg5 : arg5.IsWhole) (x3 : Vec Ideal S1x1024 .f32)
    (arg6 : Memref sig .tc .vmem S1x1024 .f32) (harg6 : arg6.IsWhole) (x4 : Vec Ideal S1x1024 .f32) (r : Fin 512) (j : Fin 1024) :
    View.canon (mixLA fh0 fh1 arg17 arg1 harg1 x0 arg2 harg2 x1 arg14 arg4 harg4 x2 arg5 harg5 x3 arg6 harg6 x4) (ix2 r j)
      = mixV x0 x1 (G0 fh0) x2 x3 x4 r j := by
  have hi : (Rect.unit (s := S512x1024) ![0, 0] S512x1024.size Env.xInb).emb (ix2 r j) = ix2 r j := by
    funext a
    apply Fin.ext
    fin_cases a
    · show 0 + 1 * r.val = r.val
      omega
    · show 0 + 1 * j.val = j.val
      omega
  have z3 : ∀ (x : S1x512x1024.Idx) (a : Fin 3), (![0, 0, 0] : Fin 3 → ℕ) a + (x a).val = (x a).val := by
    intro x a; fin_cases a <;> exact Nat.zero_add _
  have e0 := funext fun y => read_block harg1 x0 _ _ blockInb y y (z3 y)
  have e1 := funext fun y => read_block harg2 x1 _ _ blockInb y y (z3 y)
  have es := funext fun y => (read_cov arg14 (wL0 fh0 fh1 arg17 4) _ _ woInb y y (fun a => by fin_cases a <;> exact Nat.zero_add _)).trans
    (congrFun (wL0_canon fh0 fh1 arg17) y)
  have e2 := funext fun y => read_block harg4 x2 _ _ Env.rowInb y y (fun a => by fin_cases a <;> exact Nat.zero_add _)
  have e3 := funext fun y => read_block harg5 x3 _ _ Env.rowInb y y (fun a => by fin_cases a <;> exact Nat.zero_add _)
  have e4 := funext fun y => read_block harg6 x4 _ _ Env.rowInb y y (fun a => by fin_cases a <;> exact Nat.zero_add _)
  rw [← hi]
  refine (View.canon_cons_emb _ _ _ _).trans ?_
  rw [e0, e1, es, e2, e3, e4]
  exact mixPay_at x0 x1 (G0 fh0) x2 x3 x4 r j

end

section
variable  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : cond0_0 i) (hc1 : cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (fh0 : HbBuf0 (F := Ideal) c hbM0_0) (fh1 : HbBuf0 (F := Ideal) c hbM0_1) (fh2 : HbBuf0 (F := Ideal) c hbM0_2)

theorem w0A : (kernelRun0_A c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 fh0 fh1 fh2).2.1 = wL0 fh0 fh1 arg17 4 := by
  sl_kernel_rfl

theorem w1A : (kernelRun0_A c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 fh0 fh1 fh2).2.2.1 = wL1 fh0 fh1 fh2 arg17 16 := by
  sl_kernel_rfl

theorem w2A : (kernelRun0_A c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 fh0 fh1 fh2).2.2.2.1 = wL2 fh0 fh1 fh2 arg17 11 := by
  sl_kernel_rfl

theorem x1A : (kernelRun0_A c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 fh0 fh1 fh2).2.2.2.2.1
    = mixLA fh0 fh1 arg17 arg1 harg1 x0 arg2 harg2 x1 arg14 arg4 harg4 x2 arg5 harg5 x3 arg6 harg6 x4 := by
  sl_kernel_rfl

end

end Cert.KernelIdeal.Value
-- ==== Proof.KB.lean ====
module

public import proofs.«01_k».proof.Proof.Gen.KernelIdeal.Frame.RunB
public import proofs.«01_k».proof.Proof.Words

/-! The grid points with no rows left from the point before: what they store. -/

set_option maxRecDepth 16384
@[expose] public section

noncomputable section
open Idealize.ShloMosaic Idealize.SL.Sem
open Idealize.ShloMosaic.Tactic
namespace Cert.KernelIdeal.Value
open Cert.KernelIdeal Cert.KernelIdeal.Gen Cert.Proof

theorem zInb : ∀ a, (![0, 0, 0] : Fin 3 → ℕ) a + S11x16x256.size a ≤ S11x16x256.size a := by
  intro a; fin_cases a <;> simp [S11x16x256]

def zG : List (View.Piece (Elt Ideal) S11x16x256 .f32) := [⟨Rect.unit ![0, 0, 0] S11x16x256.size zInb, k0_pay36 (F := Ideal)⟩]
def zU : List (View.Piece (Elt Ideal) S11x16x256 .f32) := [⟨Rect.unit ![0, 0, 0] S11x16x256.size zInb, k0_pay37 (F := Ideal)⟩]

def cgB (E : Env) (M : Memref sig .tc .vmem S11x16x256 .f32) (n : ℕ) : Vec Ideal S1x16x256 .f32 :=
  M.view.readCov (carL E.ug zG n) (Rect.unit (s := S11x16x256) ![n % 11, 0, 0] S1x16x256.size (carInb n)).toLoadRect
def cuB (E : Env) (M : Memref sig .tc .vmem S11x16x256 .f32) (n : ℕ) : Vec Ideal S1x16x256 .f32 :=
  M.view.readCov (carL E.uu zU n) (Rect.unit (s := S11x16x256) ![n % 11, 0, 0] S1x16x256.size (carInb n)).toLoadRect

theorem zG_at (y : S11x16x256.Idx) : View.canon zG y = 0 := by
  have hi : (Rect.unit (s := S11x16x256) ![0, 0, 0] S11x16x256.size zInb).emb y = y := by
    funext a
    apply Fin.ext
    show (![0, 0, 0] : Fin 3 → ℕ) a + 1 * (y a).val = (y a).val
    fin_cases a <;> exact (Nat.zero_add _).trans (Nat.one_mul _)
  refine (congrArg (View.canon zG) hi.symm).trans ((View.canon_cons_emb _ _ _ _).trans ?_)
  show Ideal.ofBits .f32 0x00000000#32 = 0
  simp

theorem zU_at (y : S11x16x256.Idx) : View.canon zU y = 0 := zG_at y

theorem cgB_at (E : Env) (M : Memref sig .tc .vmem S11x16x256 .f32) (n : Fin 11) (q : Fin 16) (c : Fin 256) :
    cgB E M n.val (ix3 0 q c) = 0 := by
  refine (read_cov M _ _ _ _ _ (ix3 n q c) (fun a => ?_)).trans ((car_miss _ _ _ n q c le_rfl).trans (zG_at _))
  have := n.isLt
  fin_cases a
  · show n.val % 11 + 0 = n.val
    omega
  · exact Nat.zero_add _
  · exact Nat.zero_add _

theorem cuB_at (E : Env) (M : Memref sig .tc .vmem S11x16x256 .f32) (n : Fin 11) (q : Fin 16) (c : Fin 256) :
    cuB E M n.val (ix3 0 q c) = 0 := by
  refine (read_cov M _ _ _ _ _ (ix3 n q c) (fun a => ?_)).trans ((car_miss _ _ _ n q c le_rfl).trans (zU_at _))
  have := n.isLt
  fin_cases a
  · show n.val % 11 + 0 = n.val
    omega
  · exact Nat.zero_add _
  · exact Nat.zero_add _

theorem outsB  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (fh0 : HbBuf0 (F := Ideal) c hbM0_0) (fh1 : HbBuf0 (F := Ideal) c hbM0_1) (fh2 : HbBuf0 (F := Ideal) c hbM0_2) :
    (kernelRun0_B c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 fh0 fh1 fh2).1 = (Env.mk arg8 harg8 arg9 harg9 arg11 harg11 arg12 harg12 arg15 harg15 arg16 harg16 arg19 harg19 arg20 arg21 arg22 x5 x6 x7 x8 xs1 xs2 xs4).outs (cgB (Env.mk arg8 harg8 arg9 harg9 arg11 harg11 arg12 harg12 arg15 harg15 arg16 harg16 arg19 harg19 arg20 arg21 arg22 x5 x6 x7 x8 xs1 xs2 xs4) arg23) (cuB (Env.mk arg8 harg8 arg9 harg9 arg11 harg11 arg12 harg12 arg15 harg15 arg16 harg16 arg19 harg19 arg20 arg21 arg22 x5 x6 x7 x8 xs1 xs2 xs4) arg24) := by
  sl_kernel_rfl

theorem carGB  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (fh0 : HbBuf0 (F := Ideal) c hbM0_0) (fh1 : HbBuf0 (F := Ideal) c hbM0_1) (fh2 : HbBuf0 (F := Ideal) c hbM0_2) :
    (kernelRun0_B c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 fh0 fh1 fh2).2.2.2.2.2.1 = carL (Env.mk arg8 harg8 arg9 harg9 arg11 harg11 arg12 harg12 arg15 harg15 arg16 harg16 arg19 harg19 arg20 arg21 arg22 x5 x6 x7 x8 xs1 xs2 xs4).ug zG 11 := by
  sl_kernel_rfl

theorem carUB  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (fh0 : HbBuf0 (F := Ideal) c hbM0_0) (fh1 : HbBuf0 (F := Ideal) c hbM0_1) (fh2 : HbBuf0 (F := Ideal) c hbM0_2) :
    (kernelRun0_B c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 fh0 fh1 fh2).2.2.2.2.2.2.1 = carL (Env.mk arg8 harg8 arg9 harg9 arg11 harg11 arg12 harg12 arg15 harg15 arg16 harg16 arg19 harg19 arg20 arg21 arg22 x5 x6 x7 x8 xs1 xs2 xs4).uu zU 11 := by
  sl_kernel_rfl

theorem x1B  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (fh0 : HbBuf0 (F := Ideal) c hbM0_0) (fh1 : HbBuf0 (F := Ideal) c hbM0_1) (fh2 : HbBuf0 (F := Ideal) c hbM0_2) :
    (kernelRun0_B c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 fh0 fh1 fh2).2.2.2.2.1 = mixL arg1 harg1 x0 arg2 harg2 x1 arg14 harg14 xs0 arg4 harg4 x2 arg5 harg5 x3 arg6 harg6 x4 := by
  sl_kernel_rfl

end Cert.KernelIdeal.Value
-- ==== Proof.KC.lean ====
module

public import proofs.«01_k».proof.Proof.Gen.KernelIdeal.Frame.RunC
public import proofs.«01_k».proof.Proof.Words

/-! The grid points that follow on from the point before: what they store. -/

set_option maxRecDepth 16384
@[expose] public section

noncomputable section
open Idealize.ShloMosaic Idealize.SL.Sem
open Idealize.ShloMosaic.Tactic
namespace Cert.KernelIdeal.Value
open Cert.KernelIdeal Cert.KernelIdeal.Gen Cert.Proof

def cC (M : Memref sig .tc .vmem S11x16x256 .f32) (h : M.IsWhole) (xs : Vec Ideal S11x16x256 .f32) (n : ℕ) : Vec Ideal S1x16x256 .f32 :=
  View.readAt (Elt Ideal) M.view (Rect.unit (s := S11x16x256) ![n % 11, 0, 0] S1x16x256.size (carInb n)).toLoadRect (h.unread xs)

theorem cC_at (M : Memref sig .tc .vmem S11x16x256 .f32) (h : M.IsWhole) (xs : Vec Ideal S11x16x256 .f32) (n : Fin 11) (q : Fin 16)
    (c : Fin 256) : cC M h xs n.val (ix3 0 q c) = xs (ix3 n q c) :=
  read_block h xs _ _ _ _ _ (fun a => by
    have := n.isLt
    fin_cases a
    · show n.val % 11 + 0 = n.val
      omega
    · exact Nat.zero_add _
    · exact Nat.zero_add _)

theorem outsC  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : ¬cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (xs8 : Vec Ideal S11x16x256 .f32) (xs9 : Vec Ideal S11x16x256 .f32) (fh0 : HbBuf0 (F := Ideal) c hbM0_0) (fh1 : HbBuf0 (F := Ideal) c hbM0_1) (fh2 : HbBuf0 (F := Ideal) c hbM0_2) :
    (kernelRun0_C c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 xs8 xs9 fh0 fh1 fh2).1 = (Env.mk arg8 harg8 arg9 harg9 arg11 harg11 arg12 harg12 arg15 harg15 arg16 harg16 arg19 harg19 arg20 arg21 arg22 x5 x6 x7 x8 xs1 xs2 xs4).outs (cC arg23 harg23 xs8) (cC arg24 harg24 xs9) := by
  sl_kernel_rfl

theorem carGC  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : ¬cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (xs8 : Vec Ideal S11x16x256 .f32) (xs9 : Vec Ideal S11x16x256 .f32) (fh0 : HbBuf0 (F := Ideal) c hbM0_0) (fh1 : HbBuf0 (F := Ideal) c hbM0_1) (fh2 : HbBuf0 (F := Ideal) c hbM0_2) :
    (kernelRun0_C c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 xs8 xs9 fh0 fh1 fh2).2.2.2.2.2.1 = carL (Env.mk arg8 harg8 arg9 harg9 arg11 harg11 arg12 harg12 arg15 harg15 arg16 harg16 arg19 harg19 arg20 arg21 arg22 x5 x6 x7 x8 xs1 xs2 xs4).ug [] 11 := by
  sl_kernel_rfl

theorem carUC  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : ¬cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (xs8 : Vec Ideal S11x16x256 .f32) (xs9 : Vec Ideal S11x16x256 .f32) (fh0 : HbBuf0 (F := Ideal) c hbM0_0) (fh1 : HbBuf0 (F := Ideal) c hbM0_1) (fh2 : HbBuf0 (F := Ideal) c hbM0_2) :
    (kernelRun0_C c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 xs8 xs9 fh0 fh1 fh2).2.2.2.2.2.2.1 = carL (Env.mk arg8 harg8 arg9 harg9 arg11 harg11 arg12 harg12 arg15 harg15 arg16 harg16 arg19 harg19 arg20 arg21 arg22 x5 x6 x7 x8 xs1 xs2 xs4).uu [] 11 := by
  sl_kernel_rfl

theorem x1C  (c : Dev nD) (i : grid0.Coords) (arg1 : Memref sig .tc .vmem S1x512x1024 .f32) (harg1 : arg1.IsWhole) (arg2 : Memref sig .tc .vmem S1x512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg8 : Memref sig .tc .vmem S3x5632 .f32) (harg8 : arg8.IsWhole) (arg9 : Memref sig .tc .vmem S1x5632 .f32) (harg9 : arg9.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S1024x1024 .bf16) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S4x256x1792 .f32) (harg17 : arg17.IsWhole) (arg19 : Memref sig .tc .vmem S512x1024 .f32) (harg19 : arg19.IsWhole) (arg20 : Memref sig .tc .vmem S8x512x128 .f32) (harg20 : arg20.IsWhole) (arg21 : Memref sig .tc .vmem S8x576x128 .f32) (harg21 : arg21.IsWhole) (arg22 : Memref sig .tc .vmem S512x2816 .bf16) (harg22 : arg22.IsWhole) (arg23 : Memref sig .tc .vmem S11x16x256 .f32) (harg23 : arg23.IsWhole) (arg24 : Memref sig .tc .vmem S11x16x256 .f32) (harg24 : arg24.IsWhole) (hc0 : ¬cond0_0 i) (hc1 : ¬cond0_1 i)
    (x0 : Vec Ideal S1x512x1024 .f32) (x1 : Vec Ideal S1x512x1024 .f32) (x2 : Vec Ideal S1x1024 .f32) (x3 : Vec Ideal S1x1024 .f32) (x4 : Vec Ideal S1x1024 .f32) (x5 : Vec Ideal S3x5632 .f32) (x6 : Vec Ideal S1x5632 .f32) (x7 : Vec Ideal S1x1024 .f32) (x8 : Vec Ideal S1x1024 .f32) (xs0 : Vec Ideal S1024x1024 .bf16) (xs1 : Vec Ideal S1024x5632 .bf16) (xs2 : Vec Ideal S2816x1024 .bf16) (xs4 : Vec Ideal S512x1024 .f32) (xs8 : Vec Ideal S11x16x256 .f32) (xs9 : Vec Ideal S11x16x256 .f32) (fh0 : HbBuf0 (F := Ideal) c hbM0_0) (fh1 : HbBuf0 (F := Ideal) c hbM0_1) (fh2 : HbBuf0 (F := Ideal) c hbM0_2) :
    (kernelRun0_C c i arg1 harg1 arg2 harg2 arg4 harg4 arg5 harg5 arg6 harg6 arg8 harg8 arg9 harg9 arg11 harg11 arg12 harg12 arg13 harg13 arg14 harg14 arg15 harg15 arg16 harg16 arg17 harg17 arg19 harg19 arg20 harg20 arg21 harg21 arg22 harg22 arg23 harg23 arg24 harg24 hc0 hc1 x0 x1 x2 x3 x4 x5 x6 x7 x8 xs0 xs1 xs2 xs4 xs8 xs9 fh0 fh1 fh2).2.2.2.2.1 = mixL arg1 harg1 x0 arg2 harg2 x1 arg14 harg14 xs0 arg4 harg4 x2 arg5 harg5 x3 arg6 harg6 x4 := by
  sl_kernel_rfl

end Cert.KernelIdeal.Value
-- ==== Proof.Blocks.lean ====
module

public import proofs.«01_k».proof.Proof.Gen.KernelIdeal.Frame.Runs
public import proofs.«01_k».proof.Proof.Ref
public import Idealize.ShloMosaic.Lib.Pointwise
public import Idealize.ShloMosaic.Lib.Pipeline.ValueKit
public import Idealize.ShloMosaic.Lib.Claim

/-! The blocks the points read, as parts of the arguments. -/

set_option maxRecDepth 16384

@[expose] public section

noncomputable section
open Idealize.ShloMosaic Idealize.SL.Sem
open Idealize.ShloMosaic.Pipeline (Dat)
namespace Cert.KernelIdeal.Value
open Cert.KernelIdeal Cert.KernelIdeal.Gen

variable (m : (ℓ : Loc nD τ sig) → Buf (Elt Ideal) ℓ)

/-- The layer's arguments as the launch finds them. -/
def argsOf (c : Dev nD) : Cert.ReferenceIdeal.Value.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11)⟩

/-- The tile the first part of point `n` works on. -/
def mt (n : ℕ) : ℕ := if n ≤ 31 then n else 31

theorem idx : ∀ t : Fin cfg0.N,
    win0_0.index t = ![(if t.val ≤ 31 then t.val else 31) / 16, (if t.val ≤ 31 then t.val else 31) % 16, 0] ∧
    win0_1.index t = ![(if t.val ≤ 31 then t.val else 31) / 16, (if t.val ≤ 31 then t.val else 31) % 16, 0] ∧
    win0_2.index t = ![0, 0] ∧ win0_3.index t = ![0, 0] ∧ win0_4.index t = ![0, 0] ∧ win0_5.index t = ![0, 0] ∧
    win0_6.index t = ![0, 0] ∧ win0_7.index t = ![0, 0] ∧ win0_8.index t = ![0, 0] ∧
    win0_9.index t = ![(t.val - 1) / 16, (t.val - 1) % 16, 0] :=
  (by decide +kernel : ∀ t : Fin grid0.N, _)

theorem blk0 (c : Dev nD) (t : Fin cfg0.N) (i : Fin 2) (T : Fin 16) (hi : mt t.val / 16 = i.val) (hT : mt t.val % 16 = T.val)
    (r : Fin 512) (j : Fin 1024) :
    iblk m c 0 t (ix3 0 r j) = (argsOf m c).x (ix3 i ⟨512 * T.val + r.val, by omega⟩ j) := by
  unfold mt at hi hT
  show _ = m ((c.tc : Thread nD τ).loc main_arg0) (ix3 i ⟨512 * T.val + r.val, by omega⟩ j)
  blk_ext! [iblk, V, idx t]

theorem blk1 (c : Dev nD) (t : Fin cfg0.N) (i : Fin 2) (T : Fin 16) (hi : mt t.val / 16 = i.val) (hT : mt t.val % 16 = T.val)
    (r : Fin 512) (j : Fin 1024) :
    iblk m c 1 t (ix3 0 r j) = (argsOf m c).y (ix3 i ⟨512 * T.val + r.val, by omega⟩ j) := by
  unfold mt at hi hT
  show _ = m ((c.tc : Thread nD τ).loc main_arg1) (ix3 i ⟨512 * T.val + r.val, by omega⟩ j)
  blk_ext! [iblk, V, idx t]

theorem blk2 (c : Dev nD) (t : Fin cfg0.N) (j : Fin 1024) : iblk m c 2 t (ix2 0 j) = (argsOf m c).bo (ix2 0 j) := by
  show _ = m ((c.tc : Thread nD τ).loc main_arg3) (ix2 0 j)
  blk_ext! [iblk, V, idx t]
theorem blk3 (c : Dev nD) (t : Fin cfg0.N) (j : Fin 1024) : iblk m c 3 t (ix2 0 j) = (argsOf m c).g1 (ix2 0 j) := by
  show _ = m ((c.tc : Thread nD τ).loc main_arg4) (ix2 0 j)
  blk_ext! [iblk, V, idx t]
theorem blk4 (c : Dev nD) (t : Fin cfg0.N) (j : Fin 1024) : iblk m c 4 t (ix2 0 j) = (argsOf m c).b1 (ix2 0 j) := by
  show _ = m ((c.tc : Thread nD τ).loc main_arg5) (ix2 0 j)
  blk_ext! [iblk, V, idx t]
theorem blk5 (c : Dev nD) (t : Fin cfg0.N) (a : Fin 3) (j : Fin 5632) :
    iblk m c 5 t (ix2 a j) = (argsOf m c).fw (ix3 0 a j) := by
  show _ = m ((c.tc : Thread nD τ).loc main_arg7) (ix3 0 a j)
  blk_ext! [iblk, V, idx t]
theorem blk6 (c : Dev nD) (t : Fin cfg0.N) (j : Fin 5632) : iblk m c 6 t (ix2 0 j) = (argsOf m c).fb (ix2 0 j) := by
  show _ = m ((c.tc : Thread nD τ).loc main_arg8) (ix2 0 j)
  blk_ext! [iblk, V, idx t]
theorem blk7 (c : Dev nD) (t : Fin cfg0.N) (j : Fin 1024) : iblk m c 7 t (ix2 0 j) = (argsOf m c).g2 (ix2 0 j) := by
  show _ = m ((c.tc : Thread nD τ).loc main_arg10) (ix2 0 j)
  blk_ext! [iblk, V, idx t]
theorem blk8 (c : Dev nD) (t : Fin cfg0.N) (j : Fin 1024) : iblk m c 8 t (ix2 0 j) = (argsOf m c).b2 (ix2 0 j) := by
  show _ = m ((c.tc : Thread nD τ).loc main_arg11) (ix2 0 j)
  blk_ext! [iblk, V, idx t]

end Cert.KernelIdeal.Value
-- ==== Proof.Cases.lean ====
module

public import proofs.«01_k».proof.Proof.Gen.KernelIdeal.Frame
public import proofs.«01_k».proof.Proof.KA
public import proofs.«01_k».proof.Proof.KB
public import proofs.«01_k».proof.Proof.KC
public import proofs.«01_k».proof.Proof.Blocks
public import Idealize.ShloMosaic.Lib.Pipeline.ValueKit

/-! What each grid point leaves in its output tile and in the buffers kept for the next point, over what the point
before left. -/

set_option maxRecDepth 16384

@[expose] public section

noncomputable section
open Idealize.ShloMosaic Idealize.SL.Sem
open Idealize.ShloMosaic.Pipeline (Dat)
namespace Cert.KernelIdeal.Value
open Cert.KernelIdeal Cert.KernelIdeal.Gen Cert.Proof

variable (m : (ℓ : Loc nD τ sig) → Buf (Elt Ideal) ℓ) (c : Dev nD) (t : Fin cfg0.N)

/-- What the point before left. -/
abbrev prev := outsAt0 m c (t.val - 1) (Nat.lt_of_le_of_lt (Nat.sub_le _ _) t.isLt)

/-- The kept rows as a function of the row and the column. -/
def carK (xs : Vec Ideal S11x16x256 .f32) (q : Fin 16) (j : Fin 2816) : EReal :=
  xs (ix3 ⟨j.val / 256, by omega⟩ q ⟨j.val % 256, by omega⟩)

theorem carK_col (xs : Vec Ideal S11x16x256 .f32) (q : Fin 16) (n : Fin 11) (k : Fin 256) :
    xs (ix3 n q k) = carK xs q (col n k) := by
  unfold carK
  congr 2
  · apply Fin.ext; simp only [col]; omega
  · apply Fin.ext; simp only [col]; omega

/-! ### The first point -/

theorem woA (h0 : t.val % 33 = 0) (h1 : (t.val % 33 = 0 ∨ t.val % 33 = 1 ∨ t.val % 33 = 17)) (k j : Fin 1024) :
    (outsAt0 m c t.val t.isLt).2.1 (ix2 k j) = (argsOf m c).wo (ix3 0 k j) := by
  rw [outsAt0_A m c t h0 h1]
  dsimp only
  unfold sout0_A_0
  rw [View.read_writes_junk_eq_canon, w0A, wL0_canon]
  exact congrFun (V_main_arg2 m c) _

theorem wuA (h0 : t.val % 33 = 0) (h1 : (t.val % 33 = 0 ∨ t.val % 33 = 1 ∨ t.val % 33 = 17)) (k : Fin 1024) (j : Fin 5632) :
    (outsAt0 m c t.val t.isLt).2.2.1 (ix2 k j) = (argsOf m c).wu (ix3 0 k j) := by
  rw [outsAt0_A m c t h0 h1]
  dsimp only
  unfold sout0_A_1
  rw [View.read_writes_junk_eq_canon, w1A, wL1_canon]
  exact congrFun (V_main_arg6 m c) _

theorem wdA (h0 : t.val % 33 = 0) (h1 : (t.val % 33 = 0 ∨ t.val % 33 = 1 ∨ t.val % 33 = 17)) (k : Fin 2816) (j : Fin 1024) :
    (outsAt0 m c t.val t.isLt).2.2.2.1 (ix2 k j) = (argsOf m c).wd (ix3 0 k j) := by
  rw [outsAt0_A m c t h0 h1]
  dsimp only
  unfold sout0_A_2
  rw [View.read_writes_junk_eq_canon, w2A, wL2_canon]
  exact congrFun (V_main_arg9 m c) _

theorem x1A_at (h0 : t.val % 33 = 0) (h1 : (t.val % 33 = 0 ∨ t.val % 33 = 1 ∨ t.val % 33 = 17)) (r : Fin 512) (j : Fin 1024) :
    (outsAt0 m c t.val t.isLt).2.2.2.2.1 (ix2 r j)
      = mixV (iblk m c 0 t) (iblk m c 1 t) (fun y => (argsOf m c).wo (ix3 0 (y 0) (y 1))) (iblk m c 2 t) (iblk m c 3 t) (iblk m c 4 t) r j := by
  rw [outsAt0_A m c t h0 h1]
  dsimp only
  unfold sout0_A_4
  rw [View.read_writes_junk_eq_canon, x1A]
  refine (mixA_at _ _ _ _ _ _ _ _ _ _ _ _ _ _ _ _ _ _ _ _ _).trans ?_
  have e : G0 (V m c main_arg2) = fun y => (argsOf m c).wo (ix3 0 (y 0) (y 1)) := funext fun y => congrFun (V_main_arg2 m c) _
  exact congrArg (fun w => mixV (iblk m c 0 t) (iblk m c 1 t) w (iblk m c 2 t) (iblk m c 3 t) (iblk m c 4 t) r j) e

/-! ### A point with no rows left from the point before -/

section
variable (h0 : ¬t.val % 33 = 0) (h1 : (t.val % 33 = 0 ∨ t.val % 33 = 1 ∨ t.val % 33 = 17))
include h0 h1

theorem woB : (outsAt0 m c t.val t.isLt).2.1 = (prev m c t).2.1 := by
  rw [outsAt0_B m c t h0 h1]; rfl
theorem wuB : (outsAt0 m c t.val t.isLt).2.2.1 = (prev m c t).2.2.1 := by
  rw [outsAt0_B m c t h0 h1]; rfl
theorem wdB : (outsAt0 m c t.val t.isLt).2.2.2.1 = (prev m c t).2.2.2.1 := by
  rw [outsAt0_B m c t h0 h1]; rfl

theorem x1B_at (r : Fin 512) (j : Fin 1024) :
    (outsAt0 m c t.val t.isLt).2.2.2.2.1 (ix2 r j)
      = mixV (iblk m c 0 t) (iblk m c 1 t) (prev m c t).2.1 (iblk m c 2 t) (iblk m c 3 t) (iblk m c 4 t) r j := by
  rw [outsAt0_B m c t h0 h1]
  dsimp only
  unfold sout0_B_4
  rw [View.read_writes_junk_eq_canon, x1B]
  exact mix_at _ _ _ _ _ _ _ _ _ _ _ _ _ _ _ _ _ _ _ _

theorem outB_at (r : Fin 512) (j : Fin 1024) :
    (outsAt0 m c t.val t.isLt).1 (ix3 0 r j)
      = resP (prev m c t).2.2.2.2.1 (prev m c t).2.2.1 (prev m c t).2.2.2.1 (iblk m c 5 t) (iblk m c 6 t) (iblk m c 7 t) (iblk m c 8 t)
        (fun _ _ => 0) (fun _ _ => 0) (pr r) j := by
  rw [outsAt0_B m c t h0 h1]
  dsimp only
  unfold out0_B_9
  rw [View.read_writes_junk_eq_canon, outsB]
  exact Env.outs_at _ _ _ (fun _ _ => 0) (fun _ _ => 0) (fun n q k => cgB_at _ _ n q k) (fun n q k => cuB_at _ _ n q k) r j

theorem cgB_out (n : Fin 11) (q : Fin 16) (k : Fin 256) :
    (outsAt0 m c t.val t.isLt).2.2.2.2.2.1 (ix3 n q k)
      = upP (prev m c t).2.2.2.2.1 (prev m c t).2.2.1 ⟨496 + q.val, by omega⟩ (colG (col n k)) := by
  rw [outsAt0_B m c t h0 h1]
  dsimp only
  unfold sout0_B_8
  rw [View.read_writes_junk_eq_canon, carGB]
  exact (car_hit _ _ 11 le_rfl n q k n.isLt).trans (Env.ug_at _ n _ k)

theorem cuB_out (n : Fin 11) (q : Fin 16) (k : Fin 256) :
    (outsAt0 m c t.val t.isLt).2.2.2.2.2.2 (ix3 n q k)
      = upP (prev m c t).2.2.2.2.1 (prev m c t).2.2.1 ⟨496 + q.val, by omega⟩ (colU (col n k)) := by
  rw [outsAt0_B m c t h0 h1]
  dsimp only
  unfold sout0_B_9
  rw [View.read_writes_junk_eq_canon, carUB]
  exact (car_hit _ _ 11 le_rfl n q k n.isLt).trans (Env.uu_at _ n _ k)
end

/-! ### Every other point -/

section
variable (h0 : ¬t.val % 33 = 0) (h1 : ¬(t.val % 33 = 0 ∨ t.val % 33 = 1 ∨ t.val % 33 = 17))
include h0 h1

theorem woC : (outsAt0 m c t.val t.isLt).2.1 = (prev m c t).2.1 := by
  rw [outsAt0_C m c t h0 h1]; rfl
theorem wuC : (outsAt0 m c t.val t.isLt).2.2.1 = (prev m c t).2.2.1 := by
  rw [outsAt0_C m c t h0 h1]; rfl
theorem wdC : (outsAt0 m c t.val t.isLt).2.2.2.1 = (prev m c t).2.2.2.1 := by
  rw [outsAt0_C m c t h0 h1]; rfl

theorem x1C_at (r : Fin 512) (j : Fin 1024) :
    (outsAt0 m c t.val t.isLt).2.2.2.2.1 (ix2 r j)
      = mixV (iblk m c 0 t) (iblk m c 1 t) (prev m c t).2.1 (iblk m c 2 t) (iblk m c 3 t) (iblk m c 4 t) r j := by
  rw [outsAt0_C m c t h0 h1]
  dsimp only
  unfold sout0_C_4
  rw [View.read_writes_junk_eq_canon, x1C]
  exact mix_at _ _ _ _ _ _ _ _ _ _ _ _ _ _ _ _ _ _ _ _

theorem outC_at (r : Fin 512) (j : Fin 1024) :
    (outsAt0 m c t.val t.isLt).1 (ix3 0 r j)
      = resP (prev m c t).2.2.2.2.1 (prev m c t).2.2.1 (prev m c t).2.2.2.1 (iblk m c 5 t) (iblk m c 6 t) (iblk m c 7 t) (iblk m c 8 t)
        (carK (prev m c t).2.2.2.2.2.1) (carK (prev m c t).2.2.2.2.2.2) (pr r) j := by
  rw [outsAt0_C m c t h0 h1]
  dsimp only
  unfold out0_C_9
  rw [View.read_writes_junk_eq_canon, outsC]
  exact Env.outs_at _ _ _ (carK (prev m c t).2.2.2.2.2.1) (carK (prev m c t).2.2.2.2.2.2)
    (fun n q k => (cC_at _ _ _ n q k).trans (carK_col _ q n k)) (fun n q k => (cC_at _ _ _ n q k).trans (carK_col _ q n k)) r j

theorem cgC_out (n : Fin 11) (q : Fin 16) (k : Fin 256) :
    (outsAt0 m c t.val t.isLt).2.2.2.2.2.1 (ix3 n q k)
      = upP (prev m c t).2.2.2.2.1 (prev m c t).2.2.1 ⟨496 + q.val, by omega⟩ (colG (col n k)) := by
  rw [outsAt0_C m c t h0 h1]
  dsimp only
  unfold sout0_C_8
  rw [View.read_writes_junk_eq_canon, carGC]
  exact (car_hit _ _ 11 le_rfl n q k n.isLt).trans (Env.ug_at _ n _ k)

theorem cuC_out (n : Fin 11) (q : Fin 16) (k : Fin 256) :
    (outsAt0 m c t.val t.isLt).2.2.2.2.2.2 (ix3 n q k)
      = upP (prev m c t).2.2.2.2.1 (prev m c t).2.2.1 ⟨496 + q.val, by omega⟩ (colU (col n k)) := by
  rw [outsAt0_C m c t h0 h1]
  dsimp only
  unfold sout0_C_9
  rw [View.read_writes_junk_eq_canon, carUC]
  exact (car_hit _ _ 11 le_rfl n q k n.isLt).trans (Env.uu_at _ n _ k)
end

end Cert.KernelIdeal.Value
-- ==== Proof.Point.lean ====
module

public import proofs.«01_k».proof.Proof.Words
public import proofs.«01_k».proof.Proof.Ref

/-! One point's rows against the layer's rows: the rows kept from the tile before give the convolution its two earlier
rows, negated taps and bias cancel in the gate, and the two parts of the down projection are one sum. -/

set_option maxRecDepth 16384

@[expose] public section

noncomputable section
open Idealize.ShloMosaic Idealize.SL.Sem
namespace Cert.KernelIdeal.Value
open Cert.KernelIdeal Cert.KernelIdeal.Gen Cert.Proof Cert.ReferenceIdeal.Value

theorem tap1_row (u : Fin 512 → EReal) (k : Fin 16 → EReal) (Z : ℕ → EReal) (B : ℕ)
    (hu : ∀ p, u p = Z (2 + (B + (nr p).val))) (h15 : k 15 = Z (1 + B)) (p : Fin 512) :
    tap1 u k p = Z (1 + (B + (nr p).val)) := by
  unfold tap1
  split_ifs with h1 h2
  · rw [h15]; congr 1; simp only [nr]; omega
  · rw [hu]; congr 1; simp only [nr]; omega
  · rw [hu]; congr 1; simp only [nr]; omega

theorem tap2_row (u : Fin 512 → EReal) (k : Fin 16 → EReal) (Z : ℕ → EReal) (B : ℕ)
    (hu : ∀ p, u p = Z (2 + (B + (nr p).val))) (h15 : k 15 = Z (1 + B)) (h7 : k 7 = Z B) (p : Fin 512) :
    tap2 u k p = Z (B + (nr p).val) := by
  unfold tap2
  split_ifs with h1 h2 h3 h4
  · rw [h7]; congr 1; simp only [nr]; omega
  · rw [hu]; congr 1; simp only [nr]; omega
  · rw [h15]; congr 1; simp only [nr]; omega
  · rw [hu]; congr 1; simp only [nr]; omega
  · rw [hu]; congr 1; simp only [nr]; omega

/-- What the precondition gives. -/
structure FinArgs (A : Args) : Prop where
  g1 : ∀ i, Fin' (A.g1 i)
  b1 : ∀ i, Fin' (A.b1 i)
  wu : ∀ i, Fin' (A.wu i)
  fw : ∀ i, Fin' (A.fw i)

theorem upz_fin (A : Args) (h : FinArgs A) (i : Fin 2) (r : ℕ) (c : Fin 5632) : Fin' (A.upz i r c) := by
  unfold Args.upz
  split_ifs with h1
  · exact sum_fin fun k => mul_fin (ln_fin _ (h.g1 _) (h.b1 _) _) (h.wu _)
  · exact zero_fin

theorem neg3_conv (A : Args) (h : FinArgs A) (i : Fin 2) (B : ℕ) (c : Fin 5632) (u : Fin 512 → EReal) (k : Fin 16 → EReal)
    (hu : ∀ p, u p = A.upz i (2 + (B + (nr p).val)) c) (h15 : k 15 = A.upz i (1 + B) c) (h7 : k 7 = A.upz i B c) (p : Fin 512)
    (f0 f1 f2 b : EReal) (e0 : f0 = A.fw (ix3 0 0 c)) (e1 : f1 = A.fw (ix3 0 1 c)) (e2 : f2 = A.fw (ix3 0 2 c))
    (eb : b = A.fb (ix2 0 c)) :
    neg3V u k f0 f1 f2 b p = -A.conv i (B + (nr p).val) c := by
  unfold neg3V Args.conv
  rw [tap1_row u k (fun n => A.upz i n c) B hu h15 p, tap2_row u k (fun n => A.upz i n c) B hu h15 h7 p, hu p, e0, e1, e2, eb]
  exact conv_neg (upz_fin A h _ _ _) (upz_fin A h _ _ _) (upz_fin A h _ _ _) (h.fw _) (h.fw _) (h.fw _)

/-- The blocks of one point hold these parts of the layer's arguments; `i`, `T` the tile's sequence and place. -/
structure At (A : Args) (i : Fin 2) (T : Fin 16) (X : Vec Ideal S512x1024 .f32) (W : Vec Ideal S1024x5632 .bf16)
    (KG KU : Fin 16 → Fin 2816 → EReal) : Prop where
  X : ∀ r j, X (ix2 r j) = A.x1 i ⟨512 * T.val + r.val, by omega⟩ j
  W : ∀ k j, W (ix2 k j) = A.wu (ix3 0 k j)
  G15 : ∀ j, KG 15 j = A.upz i (1 + 512 * T.val) (colG j)
  G7 : ∀ j, KG 7 j = A.upz i (512 * T.val) (colG j)
  U15 : ∀ j, KU 15 j = A.upz i (1 + 512 * T.val) (colU j)
  U7 : ∀ j, KU 7 j = A.upz i (512 * T.val) (colU j)

theorem upP_row (A : Args) (i : Fin 2) (T : Fin 16) (X : Vec Ideal S512x1024 .f32) (W : Vec Ideal S1024x5632 .bf16)
    (hX : ∀ r j, X (ix2 r j) = A.x1 i ⟨512 * T.val + r.val, by omega⟩ j) (hW : ∀ k j, W (ix2 k j) = A.wu (ix3 0 k j))
    (p : Fin 512) (c : Fin 5632) : upP X W p c = A.up i ⟨512 * T.val + (nr p).val, by omega⟩ c := by
  unfold upP Args.up
  exact Finset.sum_congr rfl fun k _ => by rw [hX, hW]

theorem up_upz (A : Args) (i : Fin 2) (r : Fin 8192) (n : ℕ) (h : n = 2 + r.val) (c : Fin 5632) : A.up i r c = A.upz i n c := by
  subst h
  unfold Args.upz
  rw [dif_pos ⟨by omega, by omega⟩]
  congr 1
  apply Fin.ext
  simp only; omega

theorem act_row (A : Args) (h : FinArgs A) (i : Fin 2) (T : Fin 16) (X : Vec Ideal S512x1024 .f32) (W : Vec Ideal S1024x5632 .bf16)
    (F : Vec Ideal S3x5632 .f32) (B : Vec Ideal S1x5632 .f32) (KG KU : Fin 16 → Fin 2816 → EReal) (E : At A i T X W KG KU)
    (hF : ∀ a j, F (ix2 a j) = A.fw (ix3 0 a j)) (hB : ∀ j, B (ix2 0 j) = A.fb (ix2 0 j)) (p : Fin 512) (j : Fin 2816) :
    actP X W F B KG KU p j = A.act i (512 * T.val + (nr p).val) j := by
  have hu : ∀ c p, upP X W p c = A.upz i (2 + (512 * T.val + (nr p).val)) c := fun c p => by
    rw [upP_row A i T X W E.X E.W p c]
    exact up_upz A i _ _ rfl c
  unfold actP
  rw [neg3_conv A h i (512 * T.val) (colG j) (fun p => upP X W p (colG j)) (fun q => KG q j) (hu _) (E.G15 j) (E.G7 j) p _ _ _ _
      (hF _ _) (hF _ _) (hF _ _) (hB _),
    neg3_conv A h i (512 * T.val) (colU j) (fun p => upP X W p (colU j)) (fun q => KU q j) (hu _) (E.U15 j) (E.U7 j) p _ _ _ _
      (hF _ _) (hF _ _) (hF _ _) (hB _)]
  exact gate_neg _ _ _

theorem res_row (A : Args) (h : FinArgs A) (i : Fin 2) (T : Fin 16) (X : Vec Ideal S512x1024 .f32) (W : Vec Ideal S1024x5632 .bf16)
    (D : Vec Ideal S2816x1024 .bf16) (F : Vec Ideal S3x5632 .f32) (B : Vec Ideal S1x5632 .f32) (g b : Vec Ideal S1x1024 .f32)
    (KG KU : Fin 16 → Fin 2816 → EReal) (E : At A i T X W KG KU) (hD : ∀ k j, D (ix2 k j) = A.wd (ix3 0 k j))
    (hF : ∀ a j, F (ix2 a j) = A.fw (ix3 0 a j)) (hB : ∀ j, B (ix2 0 j) = A.fb (ix2 0 j))
    (hg : ∀ j, g (ix2 0 j) = A.g2 (ix2 0 j)) (hb : ∀ j, b (ix2 0 j) = A.b2 (ix2 0 j)) (r : Fin 512) (j : Fin 1024) :
    resP X W D F B g b KG KU (pr r) j = A.out i ⟨512 * T.val + r.val, by omega⟩ j := by
  unfold resP Args.out
  rw [hg, hb]
  congr 1
  funext k
  unfold Args.r2
  rw [nr_pr, E.X]
  congr 1
  rw [Fin.sum_univ_add (a := 2048) (b := 768) (fun c : Fin 2816 => A.act i (512 * T.val + r.val) c * A.wd (ix3 0 c k))]
  congr 1
  · refine Finset.sum_congr rfl fun x _ => ?_
    rw [act_row A h i T X W F B KG KU E hF hB, hD, nr_pr]; rfl
  · refine Finset.sum_congr rfl fun x _ => ?_
    rw [act_row A h i T X W F B KG KU E hF hB, hD, nr_pr]; rfl

/-- The first norm's tile. -/
theorem mix_row (A : Args) (i : Fin 2) (T : Fin 16) (x0 x1 : Vec Ideal S1x512x1024 .f32) (w : Vec Ideal S1024x1024 .bf16)
    (x2 x3 x4 : Vec Ideal S1x1024 .f32)
    (h0 : ∀ r j, x0 (ix3 0 r j) = A.x (ix3 i ⟨512 * T.val + r.val, by omega⟩ j))
    (h1 : ∀ r j, x1 (ix3 0 r j) = A.y (ix3 i ⟨512 * T.val + r.val, by omega⟩ j))
    (hw : ∀ k j, w (ix2 k j) = A.wo (ix3 0 k j)) (h2 : ∀ j, x2 (ix2 0 j) = A.bo (ix2 0 j))
    (h3 : ∀ j, x3 (ix2 0 j) = A.g1 (ix2 0 j)) (h4 : ∀ j, x4 (ix2 0 j) = A.b1 (ix2 0 j)) (r : Fin 512) (j : Fin 1024) :
    mixV x0 x1 w x2 x3 x4 r j = A.x1 i ⟨512 * T.val + r.val, by omega⟩ j := by
  unfold mixV Args.x1
  rw [h3, h4]
  congr 1
  funext k
  unfold Args.r1
  rw [h0, h2]
  congr 2
  exact Finset.sum_congr rfl fun q _ => by rw [h1, hw]

end Cert.KernelIdeal.Value
-- ==== Proof.Value.lean ====
module

public import proofs.«01_k».proof.Proof.Cases
public import proofs.«01_k».proof.Proof.Point

/-! The run of the grid: what is kept between points, by induction on the points, and the output array: the plain layer's. -/

set_option maxRecDepth 16384

@[expose] public section

noncomputable section
open Idealize.ShloMosaic Idealize.SL.Sem
open Idealize.ShloMosaic.Pipeline (Dat)
namespace Cert.KernelIdeal.Value
open Cert.KernelIdeal Cert.KernelIdeal.Gen Cert.Proof Cert.ReferenceIdeal.Value

variable (m : (ℓ : Loc nD τ sig) → Buf (Elt Ideal) ℓ) (c : Dev nD)

theorem n_points : cfg0.N = 33 := N_0

/-- What point `n` leaves for the next: the weights, the first norm's tile, the last rows of the up projection. -/
structure Inv (n : ℕ) (h : n < cfg0.N) : Prop where
  wo : ∀ k j, (outsAt0 m c n h).2.1 (ix2 k j) = (argsOf m c).wo (ix3 0 k j)
  wu : ∀ k j, (outsAt0 m c n h).2.2.1 (ix2 k j) = (argsOf m c).wu (ix3 0 k j)
  wd : ∀ k j, (outsAt0 m c n h).2.2.2.1 (ix2 k j) = (argsOf m c).wd (ix3 0 k j)
  x1 : ∀ (i : Fin 2) (T : Fin 16), mt n / 16 = i.val → mt n % 16 = T.val → ∀ (r : Fin 512) (j : Fin 1024),
    (outsAt0 m c n h).2.2.2.2.1 (ix2 r j) = (argsOf m c).x1 i ⟨512 * T.val + r.val, by omega⟩ j
  cg : 1 ≤ n → ∀ (i : Fin 2) (T : Fin 16), (n - 1) / 16 = i.val → (n - 1) % 16 = T.val → ∀ (a : Fin 11) (q : Fin 16) (k : Fin 256),
    (outsAt0 m c n h).2.2.2.2.2.1 (ix3 a q k)
      = (argsOf m c).up i ⟨512 * T.val + (nr ⟨496 + q.val, by omega⟩).val, by omega⟩ (colG (col a k))
  cu : 1 ≤ n → ∀ (i : Fin 2) (T : Fin 16), (n - 1) / 16 = i.val → (n - 1) % 16 = T.val → ∀ (a : Fin 11) (q : Fin 16) (k : Fin 256),
    (outsAt0 m c n h).2.2.2.2.2.2 (ix3 a q k)
      = (argsOf m c).up i ⟨512 * T.val + (nr ⟨496 + q.val, by omega⟩).val, by omega⟩ (colU (col a k))

/-- The first norm's tile of any point, over the staged weight. -/
theorem mix_point (t : Fin cfg0.N) (w : Vec Ideal S1024x1024 .bf16) (hw : ∀ k j, w (ix2 k j) = (argsOf m c).wo (ix3 0 k j))
    (i : Fin 2) (T : Fin 16) (hi : mt t.val / 16 = i.val) (hT : mt t.val % 16 = T.val) (r : Fin 512) (j : Fin 1024) :
    mixV (iblk m c 0 t) (iblk m c 1 t) w (iblk m c 2 t) (iblk m c 3 t) (iblk m c 4 t) r j
      = (argsOf m c).x1 i ⟨512 * T.val + r.val, by omega⟩ j :=
  mix_row (argsOf m c) i T _ _ w _ _ _ (blk0 m c t i T hi hT) (blk1 m c t i T hi hT) hw (blk2 m c t) (blk3 m c t) (blk4 m c t) r j

theorem inv_first (t : Fin cfg0.N) (h : t.val = 0) : Inv m c t.val t.isLt := by
  have h0 : t.val % 33 = 0 := by omega
  have h1 : t.val % 33 = 0 ∨ t.val % 33 = 1 ∨ t.val % 33 = 17 := Or.inl h0
  refine ⟨woA m c t h0 h1, wuA m c t h0 h1, wdA m c t h0 h1, fun i T hi hT r j => ?_, fun h => by omega, fun h => by omega⟩
  exact (x1A_at m c t h0 h1 r j).trans (mix_point m c t _ (fun k j => rfl) i T hi hT r j)

/-- The last rows of the up projection at a point past the first. -/
theorem up_point (t : Fin cfg0.N) (hp : Inv m c (t.val - 1) (Nat.lt_of_le_of_lt (Nat.sub_le _ _) t.isLt)) (h : 1 ≤ t.val)
    (i : Fin 2) (T : Fin 16) (hi : (t.val - 1) / 16 = i.val) (hT : (t.val - 1) % 16 = T.val) (p : Fin 512) (j : Fin 5632) :
    upP (prev m c t).2.2.2.2.1 (prev m c t).2.2.1 p j = (argsOf m c).up i ⟨512 * T.val + (nr p).val, by omega⟩ j := by
  have hn : t.val < 33 := lt_of_lt_of_eq t.isLt n_points
  have hm : mt (t.val - 1) = t.val - 1 := if_pos (by omega)
  exact upP_row (argsOf m c) i T _ _ (hp.x1 i T (by rw [hm]; exact hi) (by rw [hm]; exact hT)) hp.wu p j

theorem inv_next (t : Fin cfg0.N) (h : 1 ≤ t.val) (hp : Inv m c (t.val - 1) (Nat.lt_of_le_of_lt (Nat.sub_le _ _) t.isLt)) :
    Inv m c t.val t.isLt := by
  have hn : t.val < 33 := lt_of_lt_of_eq t.isLt n_points
  have h0 : ¬t.val % 33 = 0 := by omega
  by_cases h1 : t.val % 33 = 0 ∨ t.val % 33 = 1 ∨ t.val % 33 = 17
  · refine ⟨fun k j => ?_, fun k j => ?_, fun k j => ?_, fun i T hi hT r j => ?_, fun _ i T hi hT a q k => ?_, fun _ i T hi hT a q k => ?_⟩
    · rw [woB m c t h0 h1]; exact hp.wo k j
    · rw [wuB m c t h0 h1]; exact hp.wu k j
    · rw [wdB m c t h0 h1]; exact hp.wd k j
    · exact (x1B_at m c t h0 h1 r j).trans (mix_point m c t _ hp.wo i T hi hT r j)
    · exact (cgB_out m c t h0 h1 a q k).trans (up_point m c t hp h i T hi hT _ _)
    · exact (cuB_out m c t h0 h1 a q k).trans (up_point m c t hp h i T hi hT _ _)
  · refine ⟨fun k j => ?_, fun k j => ?_, fun k j => ?_, fun i T hi hT r j => ?_, fun _ i T hi hT a q k => ?_, fun _ i T hi hT a q k => ?_⟩
    · rw [woC m c t h0 h1]; exact hp.wo k j
    · rw [wuC m c t h0 h1]; exact hp.wu k j
    · rw [wdC m c t h0 h1]; exact hp.wd k j
    · exact (x1C_at m c t h0 h1 r j).trans (mix_point m c t _ hp.wo i T hi hT r j)
    · exact (cgC_out m c t h0 h1 a q k).trans (up_point m c t hp h i T hi hT _ _)
    · exact (cuC_out m c t h0 h1 a q k).trans (up_point m c t hp h i T hi hT _ _)

theorem inv (n : ℕ) (h : n < cfg0.N) : Inv m c n h := by
  induction n with
  | zero => exact inv_first m c ⟨0, h⟩ rfl
  | succ n ih => exact inv_next m c ⟨n + 1, h⟩ (Nat.succ_le_succ (Nat.zero_le n)) (ih (by omega))

/-- The rows kept by the point before, read back: row `q` of the sixteen is row `n` of the shifted up projection. -/
theorem kept_row (A : Args) (xs : Vec Ideal S11x16x256 .f32) (i : Fin 2) (T : Fin 16) (f : Fin 2816 → Fin 5632)
    (h : ∀ (a : Fin 11) (q : Fin 16) (k : Fin 256), xs (ix3 a q k)
      = A.up i ⟨512 * T.val + (nr ⟨496 + q.val, by omega⟩).val, by omega⟩ (f (col a k)))
    (q : Fin 16) (n : ℕ) (hn : n = 2 + (512 * T.val + (nr ⟨496 + q.val, by omega⟩).val)) (j : Fin 2816) :
    carK xs q j = A.upz i n (f j) := by
  have hj : col ⟨j.val / 256, by omega⟩ ⟨j.val % 256, by omega⟩ = j := by
    apply Fin.ext; simp only [col]; omega
  unfold carK
  rw [h, hj]
  exact up_upz A i _ n hn _

theorem upz_low (A : Args) (i : Fin 2) (n : ℕ) (h : n < 2) (j : Fin 5632) : A.upz i n j = 0 :=
  dif_neg fun hh => by omega

/-- The output tile of a point past the first. -/
theorem out_point (hf : FinArgs (argsOf m c)) (t : Fin cfg0.N) (h : 1 ≤ t.val) (i : Fin 2) (T : Fin 16)
    (hi : (t.val - 1) / 16 = i.val) (hT : (t.val - 1) % 16 = T.val) (r : Fin 512) (j : Fin 1024) :
    (outsAt0 m c t.val t.isLt).1 (ix3 0 r j) = (argsOf m c).out i ⟨512 * T.val + r.val, by omega⟩ j := by
  have hn : t.val < 33 := lt_of_lt_of_eq t.isLt n_points
  have hm : mt (t.val - 1) = t.val - 1 := if_pos (by omega)
  have hp := inv m c (t.val - 1) (Nat.lt_of_le_of_lt (Nat.sub_le _ _) t.isLt)
  have hX := hp.x1 i T (by rw [hm]; exact hi) (by rw [hm]; exact hT)
  have h0 : ¬t.val % 33 = 0 := by omega
  by_cases h1 : t.val % 33 = 0 ∨ t.val % 33 = 1 ∨ t.val % 33 = 17
  · have hz : T.val = 0 := by omega
    refine (outB_at m c t h0 h1 r j).trans ?_
    refine res_row (argsOf m c) hf i T _ _ _ _ _ _ _ _ _ ⟨hX, hp.wu, fun j => ?_, fun j => ?_, fun j => ?_, fun j => ?_⟩
      hp.wd (blk5 m c t) (blk6 m c t) (blk7 m c t) (blk8 m c t) r j
    · exact (upz_low _ _ _ (by omega) _).symm
    · exact (upz_low _ _ _ (by omega) _).symm
    · exact (upz_low _ _ _ (by omega) _).symm
    · exact (upz_low _ _ _ (by omega) _).symm
  · have hT' : 1 ≤ T.val := by
      have hs : t.val % 33 = t.val := Nat.mod_eq_of_lt hn
      omega
    have hcg := hp.cg (by omega) i ⟨T.val - 1, by omega⟩ (by omega) (by simp only; omega)
    have hcu := hp.cu (by omega) i ⟨T.val - 1, by omega⟩ (by omega) (by simp only; omega)
    refine (outC_at m c t h0 h1 r j).trans ?_
    refine res_row (argsOf m c) hf i T _ _ _ _ _ _ _ _ _ ⟨hX, hp.wu, fun j => ?_, fun j => ?_, fun j => ?_, fun j => ?_⟩
      hp.wd (blk5 m c t) (blk6 m c t) (blk7 m c t) (blk8 m c t) r j
    · exact kept_row _ _ i ⟨T.val - 1, by omega⟩ colG hcg 15 _ (by simp only [nr]; omega) j
    · exact kept_row _ _ i ⟨T.val - 1, by omega⟩ colG hcg 7 _ (by simp only [nr]; omega) j
    · exact kept_row _ _ i ⟨T.val - 1, by omega⟩ colU hcu 15 _ (by simp only [nr]; omega) j
    · exact kept_row _ _ i ⟨T.val - 1, by omega⟩ colU hcu 7 _ (by simp only [nr]; omega) j

/-- The first point's tile is not written back: the second point works on the same one. -/
theorem flushed_late : ∀ t : Fin cfg0.N, win0_9.flush t = true → 1 ≤ t.val := (by decide +kernel : ∀ t : Fin grid0.N, _)

/-- The output array after the run is the plain layer's. -/
theorem final (hf : FinArgs (argsOf m c)) : (dats m 0 c).arrAt 9 (cfgs 0).N
    = REF (argsOf m c).x (argsOf m c).y (argsOf m c).wo (argsOf m c).bo (argsOf m c).g1 (argsOf m c).b1 (argsOf m c).wu
      (argsOf m c).fw (argsOf m c).fb (argsOf m c).wd (argsOf m c).g2 (argsOf m c).b2 := by
  refine (dats m 0 c).arrAt_eq_of_covers 9 _ (by decide +kernel) fun t hfl y => ?_
  have h1 : 1 ≤ t.val := flushed_late t hfl
  have hn : t.val < 33 := lt_of_lt_of_eq t.isLt n_points
  blk_simp
  rw [after0_9]
  have e : y = ix3 0 (y 1) (y 2) := by
    blk_ext
  have hr : ((y 1 : Fin 512)).val < 512 := (y 1 : Fin 512).isLt
  have e2 : (win0_9.blk t).view.emb y = ix3 (⟨(t.val - 1) / 16, by omega⟩ : Fin 2)
      (⟨512 * (⟨(t.val - 1) % 16, by omega⟩ : Fin 16).val + (y 1 : Fin 512).val, by simp only; omega⟩ : Fin 8192) (y 2 : Fin 1024) := by
    blk_ext [idx t]
  rw [e2]
  refine (congrArg _ e).trans ?_
  refine (out_point m c hf t h1 ⟨(t.val - 1) / 16, by omega⟩ ⟨(t.val - 1) % 16, by omega⟩ rfl rfl (y 1) (y 2)).trans ?_
  exact (REF_at (argsOf m c) _ _ _).symm

end Cert.KernelIdeal.Value
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pre
public import proofs.«01_k».proof.Proof.Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- A proof of a proposition proves any equal one. -/
theorem of_eq {A B : Prop} (h : A) (e : A = B) : B := e ▸ h

/-- The kernel over bit patterns: the same text as the ideal program, so its run is that program's. -/
theorem frame_kernel : Cert.quiescent_Kernel := by
  refine of_eq (fun m ρ (_ : True) => Cert.KernelIdeal.Gen.frame (F := Bits) m ρ) ?_
  sl_kernel_rfl

/-- The kernel over the extended reals. -/
theorem frame_ideal : Cert.quiescent_KernelIdeal := fun m ρ _ => Cert.KernelIdeal.Gen.frame m ρ

set_option maxHeartbeats 1600000 in
/-- The plain layer over the extended reals. -/
theorem frame_reference : Cert.quiescent_ReferenceIdeal := by
  intro m g _
  hlo_run
  · intro c
    simp only [and_self]
  · exact sem_eq_zero_of_no_sems (sig := Cert.ReferenceIdeal.sig) (by decide) _

/-- What the precondition gives of the ideal kernel's arguments. -/
theorem fin_args (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) :
    Cert.KernelIdeal.Value.FinArgs (Cert.KernelIdeal.Value.argsOf m c) := by
  letI := preFacts
  obtain ⟨h1, h2, h3, h4⟩ := pre_fin (Cert.KernelIdeal.Value.argsOf m c) (h c)
  exact ⟨h1, h2, h3, h4⟩

set_option maxHeartbeats 1600000 in
/-- Over the extended reals the kernel's result is the plain layer's. -/
theorem algebraic : Cert.algebraic_KernelIdeal_ReferenceIdeal_pre_finite (hPre_finite := preFacts) := by
  pair_intro
  · run_from Cert.KernelIdeal.Gen.run_main m g
  · hlo_run
    exact (Cert.KernelIdeal.Value.final m c (fin_args m hpre c)).symm

theorem claim : Cert.Claim :=
  ⟨Cert.Kernel.Gen.facts, Cert.KernelIdeal.Gen.facts, Cert.ReferenceIdeal.Gen.facts, preFacts,
    frame_kernel, frame_ideal, fun m g _ => frame_ideal m g trivial, frame_reference, fun m g _ => frame_reference m g trivial,
    trivial, algebraic⟩

end Cert.Proof

end

end
